-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "span_twice" .f32 0x3FF7CED9#32 ((242 / 125 : ℝ) : EReal)
  ∧ IdealRules.named_const.Statement Cert.KernelIdeal.κ "min_twice" .f32 0x3B03126F#32 ((1 / 500 : ℝ) : EReal)
  ∧ IdealRules.named_const.Statement Cert.KernelIdeal.κ "min_size" .f32 0x3A83126F#32 ((1 / 1000 : ℝ) : EReal)

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S131072 : Shape := ⟨1, ![131072]⟩
abbrev S131072x95 : Shape := ⟨2, ![131072, 95]⟩
abbrev S1024 : Shape := ⟨1, ![1024]⟩
abbrev S100000x95 : Shape := ⟨2, ![100000, 95]⟩
abbrev S1x1 : Shape := ⟨2, ![1, 1]⟩
abbrev S_ : Shape := ⟨0, ![]⟩

class Facts : Prop where
  slices_S100000x95_S1x1_0_0 : S100000x95.Slices ![0, 0] S1x1
  shapeCasts_S1x1_S_ : S1x1.ShapeCasts S_
  bcast_S_S131072 : S_.BroadcastsInDim S131072 (![] : Fin 0 → Fin S131072.rank)
  reducesTo_S131072_S_d0 : S131072.ReducesTo [0] S_
  h_S_ : 0 < S_.numel
  bcast_S_S131072x95 : S_.BroadcastsInDim S131072x95 (![] : Fin 0 → Fin S131072x95.rank)
  reducesTo_S131072x95_S_d0_1 : S131072x95.ReducesTo [0, 1] S_
  bcast_S_S100000x95 : S_.BroadcastsInDim S100000x95 (![] : Fin 0 → Fin S100000x95.rank)
  reducesTo_S100000x95_S_d0_1 : S100000x95.ReducesTo [0, 1] S_

variable [Facts]

def fn_part1 {F : FTy → Type} [FloatOps F] (main_v1 : FVec F S_ .f32) (main_v7 : IVec S_ 1) (main_v13 : IVec S_ 1) (main_v16 : IVec S_ 1) : IVec S_ 1 :=
  let main_cst_5 : FVec F S_ .f32 := constant S_ .f32 0xFF800000#32
  let main_v17 : IVec S_ 1 := cmpf .ogt main_v1 main_cst_5
  let main_v18 : IVec S_ 1 := andi main_v16 main_v17
  let main_cst_6 : FVec F S_ .f32 := constant S_ .f32 0x7F800000#32
  let main_v19 : IVec S_ 1 := cmpf .olt main_v1 main_cst_6
  let main_v20 : IVec S_ 1 := andi main_v18 main_v19
  let main_v21 : IVec S_ 1 := andi main_v7 main_v13
  let main_v22 : IVec S_ 1 := andi main_v21 main_v20
  main_v22

def fn {F : FTy → Type} [FloatOps F] (main_arg0 : FVec F S131072 .f32) (main_arg1 : FVec F S131072x95 .f32) (main_arg2 : IVec S1024 32) (main_arg3 : IVec S131072 32) (main_arg4 : FVec F S100000x95 .f32) : IVec S_ 1 :=
  let main_v0 : FVec F S1x1 .f32 := (extractStridedSlice S1x1 ![0, 0] · slices_S100000x95_S1x1_0_0) main_arg4
  let main_v1 : FVec F S_ .f32 := shapeCast S_ main_v0 shapeCasts_S1x1_S_
  let main_cst : FVec F S_ .f32 := constant S_ .f32 0x00000000#32
  let main_v2 : FVec F S131072 .f32 := broadcastInDim S131072 ![] bcast_S_S131072 main_cst
  let main_v3 : IVec S131072 1 := cmpf .oge main_arg0 main_v2
  let main_cst_0 : FVec F S_ .f32 := constant S_ .f32 0x3F800000#32
  let main_v4 : FVec F S131072 .f32 := broadcastInDim S131072 ![] bcast_S_S131072 main_cst_0
  let main_v5 : IVec S131072 1 := cmpf .olt main_arg0 main_v4
  let main_v6 : IVec S131072 1 := andi main_v3 main_v5
  let main_c : IVec S_ 1 := constantI S_ 1 1#1
  let main_v7 : IVec S_ 1 := (fun x v => Host.reduce IntOp.andi x v reducesTo_S131072_S_d0 h_S_) main_v6 main_c
  let main_cst_1 : FVec F S_ .f32 := constant S_ .f32 0xFF800000#32
  let main_v8 : FVec F S131072x95 .f32 := broadcastInDim S131072x95 ![] bcast_S_S131072x95 main_cst_1
  let main_v9 : IVec S131072x95 1 := cmpf .ogt main_arg1 main_v8
  let main_cst_2 : FVec F S_ .f32 := constant S_ .f32 0x7F800000#32
  let main_v10 : FVec F S131072x95 .f32 := broadcastInDim S131072x95 ![] bcast_S_S131072x95 main_cst_2
  let main_v11 : IVec S131072x95 1 := cmpf .olt main_arg1 main_v10
  let main_v12 : IVec S131072x95 1 := andi main_v9 main_v11
  let main_c_3 : IVec S_ 1 := constantI S_ 1 1#1
  let main_v13 : IVec S_ 1 := (fun x v => Host.reduce IntOp.andi x v reducesTo_S131072x95_S_d0_1 h_S_) main_v12 main_c_3
  let main_v14 : FVec F S100000x95 .f32 := broadcastInDim S100000x95 ![] bcast_S_S100000x95 main_v1
  let main_v15 : IVec S100000x95 1 := cmpf .oeq main_arg4 main_v14
  let main_c_4 : IVec S_ 1 := constantI S_ 1 1#1
  let main_v16 : IVec S_ 1 := (fun x v => Host.reduce IntOp.andi x v reducesTo_S100000x95_S_d0_1 h_S_) main_v15 main_c_4
  fn_part1 (F := F) main_v1 main_v7 main_v13 main_v16
-- ==== Kernel.lean ====
abbrev S131072 : Shape := ⟨1, ![131072]⟩
abbrev S131072x95 : Shape := ⟨2, ![131072, 95]⟩
abbrev S1024 : Shape := ⟨1, ![1024]⟩
abbrev S100000x95 : Shape := ⟨2, ![100000, 95]⟩
abbrev S1x95 : Shape := ⟨2, ![1, 95]⟩
abbrev S95x1 : Shape := ⟨2, ![95, 1]⟩
abbrev S1x131072 : Shape := ⟨2, ![1, 131072]⟩
abbrev S95x131072 : Shape := ⟨2, ![95, 131072]⟩
abbrev S16x8x1024 : Shape := ⟨3, ![16, 8, 1024]⟩
abbrev S1x8192 : Shape := ⟨2, ![1, 8192]⟩
abbrev S95x8192 : Shape := ⟨2, ![95, 8192]⟩
abbrev S1x8x1024 : Shape := ⟨3, ![1, 8, 1024]⟩
abbrev S31x8192 : Shape := ⟨2, ![31, 8192]⟩
abbrev S1x1 : Shape := ⟨2, ![1, 1]⟩
abbrev S32x8192 : Shape := ⟨2, ![32, 8192]⟩
abbrev S64x8192 : Shape := ⟨2, ![64, 8192]⟩
abbrev S8192 : Shape := ⟨1, ![8192]⟩
abbrev S32x32 : Shape := ⟨2, ![32, 32]⟩
abbrev S8x1024 : Shape := ⟨2, ![8, 1024]⟩
abbrev S131072x1 : Shape := ⟨2, ![131072, 1]⟩

abbrev nBuf : Space → Nat
  | .hbm => 11
  | .vmem => 7
  | .smem => 0
  | _ => 0

abbrev bufTy : (tb : Table) → Fin (tcTables nBuf tb) → BufTy
  | .hbm, ⟨0, _⟩ => ⟨S131072, .f32⟩
  | .hbm, ⟨1, _⟩ => ⟨S131072x95, .f32⟩
  | .hbm, ⟨2, _⟩ => ⟨S1024, .i32⟩
  | .hbm, ⟨3, _⟩ => ⟨S131072, .i32⟩
  | .hbm, ⟨4, _⟩ => ⟨S100000x95, .f32⟩
  | .hbm, ⟨5, _⟩ => ⟨S1x95, .f32⟩
  | .hbm, ⟨6, _⟩ => ⟨S95x1, .f32⟩
  | .hbm, ⟨7, _⟩ => ⟨S1x131072, .f32⟩
  | .hbm, ⟨8, _⟩ => ⟨S95x131072, .f32⟩
  | .hbm, ⟨9, _⟩ => ⟨S16x8x1024, .f32⟩
  | .hbm, ⟨10, _⟩ => ⟨S131072x1, .f32⟩
  | .local _ .vmem, ⟨0, _⟩ => ⟨S1x8192, .f32⟩
  | .local _ .vmem, ⟨1, _⟩ => ⟨S1x8192, .f32⟩
  | .local _ .vmem, ⟨2, _⟩ => ⟨S95x8192, .f32⟩
  | .local _ .vmem, ⟨3, _⟩ => ⟨S95x8192, .f32⟩
  | .local _ .vmem, ⟨4, _⟩ => ⟨S95x1, .f32⟩
  | .local _ .vmem, ⟨5, _⟩ => ⟨S1x8x1024, .f32⟩
  | .local _ .vmem, ⟨6, _⟩ => ⟨S1x8x1024, .f32⟩
  | _, _ => ⟨S131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S95x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S95x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "min_size" => some ((1 / 1000 : ℝ) : EReal)
  | "min_twice" => some ((1 / 500 : ℝ) : EReal)
  | "span_twice" => some ((242 / 125 : ℝ) : EReal)
  | _ => none
-- ==== ReferenceIdeal.lean ====
abbrev S131072 : Shape := ⟨1, ![131072]⟩
abbrev S131072x95 : Shape := ⟨2, ![131072, 95]⟩
abbrev S1024 : Shape := ⟨1, ![1024]⟩
abbrev S100000x95 : Shape := ⟨2, ![100000, 95]⟩
abbrev S_ : Shape := ⟨0, ![]⟩
abbrev S1024x1 : Shape := ⟨2, ![1024, 1]⟩
abbrev S1024x95 : Shape := ⟨2, ![1024, 95]⟩
abbrev S131072x1 : Shape := ⟨2, ![131072, 1]⟩
abbrev S131072x32 : Shape := ⟨2, ![131072, 32]⟩
abbrev S131072x31 : Shape := ⟨2, ![131072, 31]⟩
abbrev S131072x33 : Shape := ⟨2, ![131072, 33]⟩
abbrev S33 : Shape := ⟨1, ![33]⟩
abbrev S131072x1x1 : Shape := ⟨3, ![131072, 1, 1]⟩

abbrev nBuf : Space → Nat
  | .hbm => 328
  | .vmem => 0
  | .smem => 0
  | _ => 0

abbrev hbmTy0_0 (i : Nat) : BufTy := match i % 128 with
  | 0 => ⟨S131072, .f32⟩
  | 1 => ⟨S131072x95, .f32⟩
  | 2 => ⟨S1024, .i32⟩
  | 3 => ⟨S131072, .i32⟩
  | 4 => ⟨S100000x95, .f32⟩
  | 5 => ⟨S_, .i32⟩
  | 6 => ⟨S1024, .i32⟩
  | 7 => ⟨S1024, .i1⟩
  | 8 => ⟨S_, .i32⟩
  | 9 => ⟨S1024, .i32⟩
  | 10 => ⟨S1024, .i32⟩
  | 11 => ⟨S1024, .i32⟩
  | 12 => ⟨S1024x1, .i32⟩
  | 13 => ⟨S1024x95, .f32⟩
  | 14 => ⟨S_, .i32⟩
  | 15 => ⟨S131072, .i32⟩
  | 16 => ⟨S131072, .i1⟩
  | 17 => ⟨S_, .i32⟩
  | 18 => ⟨S131072, .i32⟩
  | 19 => ⟨S131072, .i32⟩
  | 20 => ⟨S131072, .i32⟩
  | 21 => ⟨S131072x1, .i32⟩
  | 22 => ⟨S131072x95, .f32⟩
  | 23 => ⟨S131072x95, .f32⟩
  | 24 => ⟨S131072x32, .f32⟩
  | 25 => ⟨S131072x32, .f32⟩
  | 26 => ⟨S131072x31, .f32⟩
  | 27 => ⟨S_, .f32⟩
  | 28 => ⟨S131072, .f32⟩
  | 29 => ⟨S131072, .f32⟩
  | 30 => ⟨S_, .f32⟩
  | 31 => ⟨S131072, .f32⟩
  | 32 => ⟨S131072, .f32⟩
  | 33 => ⟨S_, .f32⟩
  | 34 => ⟨S131072, .f32⟩
  | 35 => ⟨S131072, .f32⟩
  | 36 => ⟨S_, .f32⟩
  | 37 => ⟨S131072, .f32⟩
  | 38 => ⟨S131072, .f32⟩
  | 39 => ⟨S131072x1, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S131072x1, .f32⟩
  | 51 => ⟨S131072x1, .i1⟩
  | 52 => ⟨S_, .f32⟩
  | 53 => ⟨S131072x1, .f32⟩
  | 54 => ⟨S131072x1, .i1⟩
  | 55 => ⟨S131072x1, .i1⟩
  | 56 => ⟨S_, .f32⟩
  | 57 => ⟨S_, .f32⟩
  | 58 => ⟨S_, .f32⟩
  | 59 => ⟨S131072x1, .f32⟩
  | 60 => ⟨S131072x1, .f32⟩
  | 61 => ⟨S_, .f32⟩
  | 62 => ⟨S131072x1, .f32⟩
  | 63 => ⟨S131072x1, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S131072x33, .f32⟩
  | 71 => ⟨S_, .f32⟩
  | 72 => ⟨S131072, .f32⟩
  | 73 => ⟨S_, .f32⟩
  | 74 => ⟨S131072, .f32⟩
  | 75 => ⟨S131072, .f32⟩
  | 76 => ⟨S131072x1, .f32⟩
  | 77 => ⟨S131072x32, .f32⟩
  | 78 => ⟨S131072x32, .f32⟩
  | 79 => ⟨S131072x32, .f32⟩
  | 80 => ⟨S_, .f32⟩
  | 81 => ⟨S131072, .f32⟩
  | 82 => ⟨S131072x1, .f32⟩
  | 83 => ⟨S131072x32, .f32⟩
  | 84 => ⟨S131072x32, .f32⟩
  | 85 => ⟨S_, .f32⟩
  | 86 => ⟨S_, .f32⟩
  | 87 => ⟨S_, .f32⟩
  | 88 => ⟨S_, .f32⟩
  | 89 => ⟨S131072x32, .f32⟩
  | 90 => ⟨S131072x32, .f32⟩
  | 91 => ⟨S131072x32, .f32⟩
  | 92 => ⟨S131072x32, .f32⟩
  | 93 => ⟨S_, .f32⟩
  | 94 => ⟨S_, .f32⟩
  | 95 => ⟨S131072x32, .f32⟩
  | 96 => ⟨S_, .i32⟩
  | 97 => ⟨S_, .f32⟩
  | 98 => ⟨S131072x33, .f32⟩
  | 99 => ⟨S_, .f32⟩
  | 100 => ⟨S131072x33, .f32⟩
  | 101 => ⟨S131072x33, .f32⟩
  | 102 => ⟨S_, .f32⟩
  | 103 => ⟨S131072x33, .f32⟩
  | 104 => ⟨S131072x33, .f32⟩
  | 105 => ⟨S33, .i32⟩
  | 106 => ⟨S_, .i32⟩
  | 107 => ⟨S33, .i32⟩
  | 108 => ⟨S33, .i1⟩
  | 109 => ⟨S_, .f32⟩
  | 110 => ⟨S_, .f32⟩
  | 111 => ⟨S131072x33, .i1⟩
  | 112 => ⟨S131072x33, .f32⟩
  | 113 => ⟨S131072x33, .f32⟩
  | 114 => ⟨S_, .i32⟩
  | 115 => ⟨S33, .i32⟩
  | 116 => ⟨S33, .i1⟩
  | 117 => ⟨S_, .f32⟩
  | 118 => ⟨S_, .f32⟩
  | 119 => ⟨S131072x33, .i1⟩
  | 120 => ⟨S131072x33, .f32⟩
  | 121 => ⟨S131072x33, .f32⟩
  | 122 => ⟨S131072x32, .f32⟩
  | 123 => ⟨S131072x32, .f32⟩
  | 124 => ⟨S131072x32, .f32⟩
  | 125 => ⟨S_, .f32⟩
  | 126 => ⟨S131072x33, .f32⟩
  | 127 => ⟨S131072x33, .f32⟩
  | _ => ⟨S131072, .f32⟩

abbrev hbmTy0_1 (i : Nat) : BufTy := match i % 128 with
  | 0 => ⟨S131072x33, .f32⟩
  | 1 => ⟨S131072x33, .f32⟩
  | 2 => ⟨S131072x33, .i1⟩
  | 3 => ⟨S131072x33, .f32⟩
  | 4 => ⟨S131072x33, .f32⟩
  | 5 => ⟨S131072x33, .f32⟩
  | 6 => ⟨S131072x33, .f32⟩
  | 7 => ⟨S131072x33, .f32⟩
  | 8 => ⟨S131072x33, .f32⟩
  | 9 => ⟨S131072x33, .f32⟩
  | 10 => ⟨S131072x33, .f32⟩
  | 11 => ⟨S131072x33, .f32⟩
  | 12 => ⟨S131072x33, .f32⟩
  | 13 => ⟨S_, .f32⟩
  | 14 => ⟨S131072, .f32⟩
  | 15 => ⟨S_, .f32⟩
  | 16 => ⟨S131072, .f32⟩
  | 17 => ⟨S131072, .f32⟩
  | 18 => ⟨S131072x1, .f32⟩
  | 19 => ⟨S131072x32, .f32⟩
  | 20 => ⟨S131072x32, .f32⟩
  | 21 => ⟨S131072x32, .f32⟩
  | 22 => ⟨S_, .f32⟩
  | 23 => ⟨S131072, .f32⟩
  | 24 => ⟨S131072x1, .f32⟩
  | 25 => ⟨S131072x32, .f32⟩
  | 26 => ⟨S131072x32, .f32⟩
  | 27 => ⟨S_, .f32⟩
  | 28 => ⟨S_, .f32⟩
  | 29 => ⟨S_, .f32⟩
  | 30 => ⟨S_, .f32⟩
  | 31 => ⟨S131072x32, .f32⟩
  | 32 => ⟨S131072x32, .f32⟩
  | 33 => ⟨S131072x32, .f32⟩
  | 34 => ⟨S131072x32, .f32⟩
  | 35 => ⟨S_, .f32⟩
  | 36 => ⟨S_, .f32⟩
  | 37 => ⟨S131072x32, .f32⟩
  | 38 => ⟨S_, .i32⟩
  | 39 => ⟨S_, .f32⟩
  | 40 => ⟨S131072x33, .f32⟩
  | 41 => ⟨S_, .f32⟩
  | 42 => ⟨S131072x33, .f32⟩
  | 43 => ⟨S131072x33, .f32⟩
  | 44 => ⟨S_, .f32⟩
  | 45 => ⟨S131072x33, .f32⟩
  | 46 => ⟨S131072x33, .f32⟩
  | 47 => ⟨S33, .i32⟩
  | 48 => ⟨S_, .i32⟩
  | 49 => ⟨S33, .i32⟩
  | 50 => ⟨S33, .i1⟩
  | 51 => ⟨S_, .f32⟩
  | 52 => ⟨S_, .f32⟩
  | 53 => ⟨S131072x33, .i1⟩
  | 54 => ⟨S131072x33, .f32⟩
  | 55 => ⟨S131072x33, .f32⟩
  | 56 => ⟨S_, .i32⟩
  | 57 => ⟨S33, .i32⟩
  | 58 => ⟨S33, .i1⟩
  | 59 => ⟨S_, .f32⟩
  | 60 => ⟨S_, .f32⟩
  | 61 => ⟨S131072x33, .i1⟩
  | 62 => ⟨S131072x33, .f32⟩
  | 63 => ⟨S131072x33, .f32⟩
  | 64 => ⟨S131072x32, .f32⟩
  | 65 => ⟨S131072x32, .f32⟩
  | 66 => ⟨S131072x32, .f32⟩
  | 67 => ⟨S131072x32, .f32⟩
  | 68 => ⟨S131072x33, .f32⟩
  | 69 => ⟨S131072x33, .i1⟩
  | 70 => ⟨S131072x33, .i32⟩
  | 71 => ⟨S_, .i32⟩
  | 72 => ⟨S131072, .i32⟩
  | 73 => ⟨S131072x1, .i32⟩
  | 74 => ⟨S_, .i32⟩
  | 75 => ⟨S131072x1, .i32⟩
  | 76 => ⟨S131072x1, .i32⟩
  | 77 => ⟨S_, .i32⟩
  | 78 => ⟨S_, .i32⟩
  | 79 => ⟨S_, .i32⟩
  | 80 => ⟨S131072x1, .i32⟩
  | 81 => ⟨S131072x1, .i32⟩
  | 82 => ⟨S_, .i32⟩
  | 83 => ⟨S131072x1, .i32⟩
  | 84 => ⟨S131072x1, .i32⟩
  | 85 => ⟨S_, .i32⟩
  | 86 => ⟨S131072x1, .i32⟩
  | 87 => ⟨S131072x1, .i1⟩
  | 88 => ⟨S_, .i32⟩
  | 89 => ⟨S131072x1, .i32⟩
  | 90 => ⟨S131072x1, .i32⟩
  | 91 => ⟨S131072x1, .i32⟩
  | 92 => ⟨S131072x1x1, .i32⟩
  | 93 => ⟨S131072x1, .f32⟩
  | 94 => ⟨S_, .i32⟩
  | 95 => ⟨S131072x1, .i32⟩
  | 96 => ⟨S131072x1, .i1⟩
  | 97 => ⟨S_, .i32⟩
  | 98 => ⟨S131072x1, .i32⟩
  | 99 => ⟨S131072x1, .i32⟩
  | 100 => ⟨S131072x1, .i32⟩
  | 101 => ⟨S131072x1x1, .i32⟩
  | 102 => ⟨S131072x1, .f32⟩
  | 103 => ⟨S_, .i32⟩
  | 104 => ⟨S131072x1, .i32⟩
  | 105 => ⟨S131072x1, .i1⟩
  | 106 => ⟨S_, .i32⟩
  | 107 => ⟨S131072x1, .i32⟩
  | 108 => ⟨S131072x1, .i32⟩
  | 109 => ⟨S131072x1, .i32⟩
  | 110 => ⟨S131072x1x1, .i32⟩
  | 111 => ⟨S131072x1, .f32⟩
  | 112 => ⟨S_, .i32⟩
  | 113 => ⟨S131072x1, .i32⟩
  | 114 => ⟨S131072x1, .i1⟩
  | 115 => ⟨S_, .i32⟩
  | 116 => ⟨S131072x1, .i32⟩
  | 117 => ⟨S131072x1, .i32⟩
  | 118 => ⟨S131072x1, .i32⟩
  | 119 => ⟨S131072x1x1, .i32⟩
  | 120 => ⟨S131072x1, .f32⟩
  | 121 => ⟨S131072x32, .f32⟩
  | 122 => ⟨S_, .i32⟩
  | 123 => ⟨S131072x1, .i32⟩
  | 124 => ⟨S131072x1, .i1⟩
  | 125 => ⟨S_, .i32⟩
  | 126 => ⟨S131072x1, .i32⟩
  | 127 => ⟨S131072x1, .i32⟩
  | _ => ⟨S131072, .f32⟩

abbrev hbmTy0_2 (i : Nat) : BufTy := match i % 128 with
  | 0 => ⟨S131072x1, .i32⟩
  | 1 => ⟨S131072x1x1, .i32⟩
  | 2 => ⟨S131072x1, .f32⟩
  | 3 => ⟨S131072x1, .f32⟩
  | 4 => ⟨S131072x1, .f32⟩
  | 5 => ⟨S_, .f32⟩
  | 6 => ⟨S131072x1, .f32⟩
  | 7 => ⟨S131072x1, .f32⟩
  | 8 => ⟨S131072x1, .f32⟩
  | 9 => ⟨S131072x1, .f32⟩
  | 10 => ⟨S131072x1, .f32⟩
  | 11 => ⟨S131072x1, .f32⟩
  | 12 => ⟨S131072x1, .f32⟩
  | 13 => ⟨S131072x1, .f32⟩
  | 14 => ⟨S131072x1, .f32⟩
  | 15 => ⟨S131072x1, .f32⟩
  | 16 => ⟨S131072x1, .f32⟩
  | 17 => ⟨S131072x1, .f32⟩
  | 18 => ⟨S131072x1, .f32⟩
  | 19 => ⟨S_, .f32⟩
  | 20 => ⟨S131072x1, .f32⟩
  | 21 => ⟨S131072x1, .f32⟩
  | 22 => ⟨S131072x1, .f32⟩
  | 23 => ⟨S131072x1, .f32⟩
  | 24 => ⟨S_, .f32⟩
  | 25 => ⟨S131072x1, .f32⟩
  | 26 => ⟨S131072x1, .f32⟩
  | 27 => ⟨S_, .f32⟩
  | 28 => ⟨S131072x1, .f32⟩
  | 29 => ⟨S131072x1, .f32⟩
  | 30 => ⟨S131072x1, .f32⟩
  | 31 => ⟨S131072x1, .f32⟩
  | 32 => ⟨S131072x1, .f32⟩
  | 33 => ⟨S131072x1, .f32⟩
  | 34 => ⟨S_, .f32⟩
  | 35 => ⟨S131072x1, .f32⟩
  | 36 => ⟨S131072x1, .f32⟩
  | 37 => ⟨S131072x1, .f32⟩
  | 38 => ⟨S131072x1, .f32⟩
  | 39 => ⟨S131072x1, .f32⟩
  | 40 => ⟨S131072x1, .f32⟩
  | 41 => ⟨S131072x1, .f32⟩
  | 42 => ⟨S131072x1, .f32⟩
  | 43 => ⟨S_, .f32⟩
  | 44 => ⟨S131072x1, .f32⟩
  | 45 => ⟨S131072x1, .f32⟩
  | 46 => ⟨S131072x1, .f32⟩
  | 47 => ⟨S131072x1, .f32⟩
  | 48 => ⟨S_, .f32⟩
  | 49 => ⟨S131072x1, .f32⟩
  | 50 => ⟨S131072x1, .f32⟩
  | 51 => ⟨S131072x1, .f32⟩
  | 52 => ⟨S131072x1, .f32⟩
  | 53 => ⟨S131072x1, .f32⟩
  | 54 => ⟨S131072x1, .f32⟩
  | 55 => ⟨S131072x1, .f32⟩
  | 56 => ⟨S131072x1, .f32⟩
  | 57 => ⟨S_, .f32⟩
  | 58 => ⟨S131072x1, .f32⟩
  | 59 => ⟨S131072x1, .f32⟩
  | 60 => ⟨S131072x1, .f32⟩
  | 61 => ⟨S131072x1, .f32⟩
  | 62 => ⟨S_, .f32⟩
  | 63 => ⟨S_, .f32⟩
  | 64 => ⟨S131072x1, .f32⟩
  | 65 => ⟨S131072x1, .f32⟩
  | 66 => ⟨S_, .f32⟩
  | 67 => ⟨S131072x1, .f32⟩
  | 68 => ⟨S131072x1, .f32⟩
  | 69 => ⟨S_, .f32⟩
  | 70 => ⟨S131072x1, .f32⟩
  | 71 => ⟨S131072x1, .f32⟩
  | _ => ⟨S131072, .f32⟩

abbrev hbmTy (i : Nat) : BufTy := match i / 128 with
  | 0 => hbmTy0_0 i
  | 1 => hbmTy0_1 i
  | 2 => hbmTy0_2 i
  | _ => ⟨S131072, .f32⟩

abbrev bufTy : (tb : Table) → Fin (tcTables nBuf tb) → BufTy
  | .hbm, ⟨i, _⟩ => hbmTy i
  | _, _ => ⟨S131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_cst_7 : Ref sig .tc := ⟨.hbm, 41, rfl⟩
abbrev main_v27 : Ref sig .tc := ⟨.hbm, 42, rfl⟩
abbrev main_cst_8 : Ref sig .tc := ⟨.hbm, 43, rfl⟩
abbrev main_cst_9 : Ref sig .tc := ⟨.hbm, 44, rfl⟩
abbrev main_v28 : Ref sig .tc := ⟨.hbm, 45, rfl⟩
abbrev main_cst_10 : Ref sig .tc := ⟨.hbm, 46, rfl⟩
abbrev main_cst_11 : Ref sig .tc := ⟨.hbm, 47, rfl⟩
abbrev main_v29 : Ref sig .tc := ⟨.hbm, 48, rfl⟩
abbrev main_cst_12 : Ref sig .tc := ⟨.hbm, 49, rfl⟩
abbrev main_v30 : Ref sig .tc := ⟨.hbm, 50, rfl⟩
abbrev main_v31 : Ref sig .tc := ⟨.hbm, 51, rfl⟩
abbrev main_cst_13 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_14 : Ref sig .tc := ⟨.hbm, 56, rfl⟩
abbrev main_cst_15 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v35 : Ref sig .tc := ⟨.hbm, 63, rfl⟩
abbrev main_cst_16 : Ref sig .tc := ⟨.hbm, 64, rfl⟩
abbrev main_v36 : Ref sig .tc := ⟨.hbm, 65, rfl⟩
abbrev main_v37 : Ref sig .tc := ⟨.hbm, 66, rfl⟩
abbrev main_cst_17 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_18 : Ref sig .tc := ⟨.hbm, 71, rfl⟩
abbrev main_v41 : Ref sig .tc := ⟨.hbm, 72, rfl⟩
abbrev main_cst_19 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_20 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_21 : Ref sig .tc := ⟨.hbm, 85, rfl⟩
abbrev main_v52 : Ref sig .tc := ⟨.hbm, 86, rfl⟩
abbrev main_cst_22 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_call2_call0_cst : Ref sig .tc := ⟨.hbm, 93, rfl⟩
abbrev main_call2_call0_v0 : Ref sig .tc := ⟨.hbm, 94, rfl⟩
abbrev main_v58 : Ref sig .tc := ⟨.hbm, 95, rfl⟩
abbrev main_c_23 : Ref sig .tc := ⟨.hbm, 96, rfl⟩
abbrev main_call3_v0 : Ref sig .tc := ⟨.hbm, 97, rfl⟩
abbrev main_v59 : Ref sig .tc := ⟨.hbm, 98, rfl⟩
abbrev main_cst_24 : Ref sig .tc := ⟨.hbm, 99, rfl⟩
abbrev main_v60 : Ref sig .tc := ⟨.hbm, 100, rfl⟩
abbrev main_v61 : Ref sig .tc := ⟨.hbm, 101, rfl⟩
abbrev main_cst_25 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_c_26 : Ref sig .tc := ⟨.hbm, 106, rfl⟩
abbrev main_v65 : Ref sig .tc := ⟨.hbm, 107, rfl⟩
abbrev main_v66 : Ref sig .tc := ⟨.hbm, 108, rfl⟩
abbrev main_cst_27 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v67 : Ref sig .tc := ⟨.hbm, 113, rfl⟩
abbrev main_c_28 : Ref sig .tc := ⟨.hbm, 114, rfl⟩
abbrev main_v68 : Ref sig .tc := ⟨.hbm, 115, rfl⟩
abbrev main_v69 : Ref sig .tc := ⟨.hbm, 116, rfl⟩
abbrev main_cst_29 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_call6_cst : Ref sig .tc := ⟨.hbm, 125, rfl⟩
abbrev main_call6_v0 : Ref sig .tc := ⟨.hbm, 126, rfl⟩
abbrev main_call6_v1 : Ref sig .tc := ⟨.hbm, 127, rfl⟩
abbrev main_call6_v2 : Ref sig .tc := ⟨.hbm, 128, rfl⟩
abbrev main_call6_v3 : Ref sig .tc := ⟨.hbm, 129, rfl⟩
abbrev main_call6_v4 : Ref sig .tc := ⟨.hbm, 130, rfl⟩
abbrev main_call6_v5 : Ref sig .tc := ⟨.hbm, 131, rfl⟩
abbrev main_call6_v6 : Ref sig .tc := ⟨.hbm, 132, rfl⟩
abbrev main_call6_v7 : Ref sig .tc := ⟨.hbm, 133, rfl⟩
abbrev main_call6_v8 : Ref sig .tc := ⟨.hbm, 134, rfl⟩
abbrev main_call6_v9 : Ref sig .tc := ⟨.hbm, 135, rfl⟩
abbrev main_call6_v10 : Ref sig .tc := ⟨.hbm, 136, rfl⟩
abbrev main_call6_v11 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_cst_30 : Ref sig .tc := ⟨.hbm, 141, rfl⟩
abbrev main_v77 : Ref sig .tc := ⟨.hbm, 142, rfl⟩
abbrev main_cst_31 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_cst_32 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_cst_33 : Ref sig .tc := ⟨.hbm, 155, rfl⟩
abbrev main_v88 : Ref sig .tc := ⟨.hbm, 156, rfl⟩
abbrev main_cst_34 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_call7_call0_cst : Ref sig .tc := ⟨.hbm, 163, rfl⟩
abbrev main_call7_call0_v0 : Ref sig .tc := ⟨.hbm, 164, rfl⟩
abbrev main_v94 : Ref sig .tc := ⟨.hbm, 165, rfl⟩
abbrev main_c_35 : Ref sig .tc := ⟨.hbm, 166, rfl⟩
abbrev main_call8_v0 : Ref sig .tc := ⟨.hbm, 167, rfl⟩
abbrev main_v95 : Ref sig .tc := ⟨.hbm, 168, rfl⟩
abbrev main_cst_36 : Ref sig .tc := ⟨.hbm, 169, rfl⟩
abbrev main_v96 : Ref sig .tc := ⟨.hbm, 170, rfl⟩
abbrev main_v97 : Ref sig .tc := ⟨.hbm, 171, rfl⟩
abbrev main_cst_37 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_c_38 : Ref sig .tc := ⟨.hbm, 176, rfl⟩
abbrev main_v101 : Ref sig .tc := ⟨.hbm, 177, rfl⟩
abbrev main_v102 : Ref sig .tc := ⟨.hbm, 178, rfl⟩
abbrev main_cst_39 : Ref sig .tc := ⟨.hbm, 179, rfl⟩
abbrev main_call9_v0 : Ref sig .tc := ⟨.hbm, 180, rfl⟩
abbrev main_call9_v1 : Ref sig .tc := ⟨.hbm, 181, rfl⟩
abbrev main_call9_v2 : Ref sig .tc := ⟨.hbm, 182, rfl⟩
abbrev main_v103 : Ref sig .tc := ⟨.hbm, 183, rfl⟩
abbrev main_c_40 : Ref sig .tc := ⟨.hbm, 184, rfl⟩
abbrev main_v104 : Ref sig .tc := ⟨.hbm, 185, rfl⟩
abbrev main_v105 : Ref sig .tc := ⟨.hbm, 186, rfl⟩
abbrev main_cst_41 : Ref sig .tc := ⟨.hbm, 187, rfl⟩
abbrev main_call10_v0 : Ref sig .tc := ⟨.hbm, 188, rfl⟩
abbrev main_call10_v1 : Ref sig .tc := ⟨.hbm, 189, rfl⟩
abbrev main_call10_v2 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_c_42 : Ref sig .tc := ⟨.hbm, 199, rfl⟩
abbrev main_v114 : Ref sig .tc := ⟨.hbm, 200, rfl⟩
abbrev main_v115 : Ref sig .tc := ⟨.hbm, 201, rfl⟩
abbrev main_c_43 : Ref sig .tc := ⟨.hbm, 202, rfl⟩
abbrev main_v116 : Ref sig .tc := ⟨.hbm, 203, rfl⟩
abbrev main_v117 : Ref sig .tc := ⟨.hbm, 204, rfl⟩
abbrev main_c_44 : Ref sig .tc := ⟨.hbm, 205, rfl⟩
abbrev main_c_45 : Ref sig .tc := ⟨.hbm, 206, rfl⟩
abbrev main_call11_v0 : Ref sig .tc := ⟨.hbm, 207, rfl⟩
abbrev main_call11_v1 : Ref sig .tc := ⟨.hbm, 208, rfl⟩
abbrev main_call11_v2 : Ref sig .tc := ⟨.hbm, 209, rfl⟩
abbrev main_call11_v3 : Ref sig .tc := ⟨.hbm, 210, rfl⟩
abbrev main_call11_v4 : Ref sig .tc := ⟨.hbm, 211, rfl⟩
abbrev main_v118 : Ref sig .tc := ⟨.hbm, 212, rfl⟩
abbrev main_call12_c : Ref sig .tc := ⟨.hbm, 213, rfl⟩
abbrev main_call12_v0 : Ref sig .tc := ⟨.hbm, 214, rfl⟩
abbrev main_call12_v1 : Ref sig .tc := ⟨.hbm, 215, rfl⟩
abbrev main_call12_c_0 : Ref sig .tc := ⟨.hbm, 216, rfl⟩
abbrev main_call12_v2 : Ref sig .tc := ⟨.hbm, 217, rfl⟩
abbrev main_call12_v3 : Ref sig .tc := ⟨.hbm, 218, rfl⟩
abbrev main_call12_v4 : Ref sig .tc := ⟨.hbm, 219, rfl⟩
abbrev main_call12_v5 : Ref sig .tc := ⟨.hbm, 220, rfl⟩
abbrev main_v119 : Ref sig .tc := ⟨.hbm, 221, rfl⟩
abbrev main_call13_c : Ref sig .tc := ⟨.hbm, 222, rfl⟩
abbrev main_call13_v0 : Ref sig .tc := ⟨.hbm, 223, rfl⟩
abbrev main_call13_v1 : Ref sig .tc := ⟨.hbm, 224, rfl⟩
abbrev main_call13_c_0 : Ref sig .tc := ⟨.hbm, 225, rfl⟩
abbrev main_call13_v2 : Ref sig .tc := ⟨.hbm, 226, rfl⟩
abbrev main_call13_v3 : Ref sig .tc := ⟨.hbm, 227, rfl⟩
abbrev main_call13_v4 : Ref sig .tc := ⟨.hbm, 228, rfl⟩
abbrev main_call13_v5 : Ref sig .tc := ⟨.hbm, 229, rfl⟩
abbrev main_v120 : Ref sig .tc := ⟨.hbm, 230, rfl⟩
abbrev main_call14_c : Ref sig .tc := ⟨.hbm, 231, rfl⟩
abbrev main_call14_v0 : Ref sig .tc := ⟨.hbm, 232, rfl⟩
abbrev main_call14_v1 : Ref sig .tc := ⟨.hbm, 233, rfl⟩
abbrev main_call14_c_0 : Ref sig .tc := ⟨.hbm, 234, rfl⟩
abbrev main_call14_v2 : Ref sig .tc := ⟨.hbm, 235, rfl⟩
abbrev main_call14_v3 : Ref sig .tc := ⟨.hbm, 236, rfl⟩
abbrev main_call14_v4 : Ref sig .tc := ⟨.hbm, 237, rfl⟩
abbrev main_call14_v5 : Ref sig .tc := ⟨.hbm, 238, rfl⟩
abbrev main_v121 : Ref sig .tc := ⟨.hbm, 239, rfl⟩
abbrev main_call15_c : Ref sig .tc := ⟨.hbm, 240, rfl⟩
abbrev main_call15_v0 : Ref sig .tc := ⟨.hbm, 241, rfl⟩
abbrev main_call15_v1 : Ref sig .tc := ⟨.hbm, 242, rfl⟩
abbrev main_call15_c_0 : Ref sig .tc := ⟨.hbm, 243, rfl⟩
abbrev main_call15_v2 : Ref sig .tc := ⟨.hbm, 244, rfl⟩
abbrev main_call15_v3 : Ref sig .tc := ⟨.hbm, 245, rfl⟩
abbrev main_call15_v4 : Ref sig .tc := ⟨.hbm, 246, rfl⟩
abbrev main_call15_v5 : Ref sig .tc := ⟨.hbm, 247, rfl⟩
abbrev main_v122 : Ref sig .tc := ⟨.hbm, 248, rfl⟩
abbrev main_v123 : Ref sig .tc := ⟨.hbm, 249, rfl⟩
abbrev main_call16_c : Ref sig .tc := ⟨.hbm, 250, rfl⟩
abbrev main_call16_v0 : Ref sig .tc := ⟨.hbm, 251, rfl⟩
abbrev main_call16_v1 : Ref sig .tc := ⟨.hbm, 252, rfl⟩
abbrev main_call16_c_0 : Ref sig .tc := ⟨.hbm, 253, rfl⟩
abbrev main_call16_v2 : Ref sig .tc := ⟨.hbm, 254, rfl⟩
abbrev main_call16_v3 : Ref sig .tc := ⟨.hbm, 255, rfl⟩
abbrev main_call16_v4 : Ref sig .tc := ⟨.hbm, 256, rfl⟩
abbrev main_call16_v5 : Ref sig .tc := ⟨.hbm, 257, rfl⟩
abbrev main_v124 : Ref sig .tc := ⟨.hbm, 258, rfl⟩
abbrev main_v125 : Ref sig .tc := ⟨.hbm, 259, rfl⟩
abbrev main_v126 : Ref sig .tc := ⟨.hbm, 260, rfl⟩
abbrev main_cst_46 : Ref sig .tc := ⟨.hbm, 261, rfl⟩
abbrev main_v127 : Ref sig .tc := ⟨.hbm, 262, rfl⟩
abbrev main_v128 : Ref sig .tc := ⟨.hbm, 263, rfl⟩
abbrev main_v129 : Ref sig .tc := ⟨.hbm, 264, rfl⟩
abbrev main_v130 : Ref sig .tc := ⟨.hbm, 265, rfl⟩
abbrev main_v131 : Ref sig .tc := ⟨.hbm, 266, rfl⟩
abbrev main_v132 : Ref sig .tc := ⟨.hbm, 267, rfl⟩
abbrev main_v133 : Ref sig .tc := ⟨.hbm, 268, rfl⟩
abbrev main_v134 : Ref sig .tc := ⟨.hbm, 269, rfl⟩
abbrev main_v135 : Ref sig .tc := ⟨.hbm, 270, rfl⟩
abbrev main_v136 : Ref sig .tc := ⟨.hbm, 271, rfl⟩
abbrev main_v137 : Ref sig .tc := ⟨.hbm, 272, rfl⟩
abbrev main_v138 : Ref sig .tc := ⟨.hbm, 273, rfl⟩
abbrev main_v139 : Ref sig .tc := ⟨.hbm, 274, rfl⟩
abbrev main_cst_47 : Ref sig .tc := ⟨.hbm, 275, rfl⟩
abbrev main_v140 : Ref sig .tc := ⟨.hbm, 276, rfl⟩
abbrev main_v141 : Ref sig .tc := ⟨.hbm, 277, rfl⟩
abbrev main_v142 : Ref sig .tc := ⟨.hbm, 278, rfl⟩
abbrev main_v143 : Ref sig .tc := ⟨.hbm, 279, rfl⟩
abbrev main_cst_48 : Ref sig .tc := ⟨.hbm, 280, rfl⟩
abbrev main_v144 : Ref sig .tc := ⟨.hbm, 281, rfl⟩
abbrev main_v145 : Ref sig .tc := ⟨.hbm, 282, rfl⟩
abbrev main_cst_49 : Ref sig .tc := ⟨.hbm, 283, rfl⟩
abbrev main_v146 : Ref sig .tc := ⟨.hbm, 284, rfl⟩
abbrev main_v147 : Ref sig .tc := ⟨.hbm, 285, rfl⟩
abbrev main_v148 : Ref sig .tc := ⟨.hbm, 286, rfl⟩
abbrev main_v149 : Ref sig .tc := ⟨.hbm, 287, rfl⟩
abbrev main_v150 : Ref sig .tc := ⟨.hbm, 288, rfl⟩
abbrev main_v151 : Ref sig .tc := ⟨.hbm, 289, rfl⟩
abbrev main_cst_50 : Ref sig .tc := ⟨.hbm, 290, rfl⟩
abbrev main_v152 : Ref sig .tc := ⟨.hbm, 291, rfl⟩
abbrev main_v153 : Ref sig .tc := ⟨.hbm, 292, rfl⟩
abbrev main_v154 : Ref sig .tc := ⟨.hbm, 293, rfl⟩
abbrev main_v155 : Ref sig .tc := ⟨.hbm, 294, rfl⟩
abbrev main_v156 : Ref sig .tc := ⟨.hbm, 295, rfl⟩
abbrev main_v157 : Ref sig .tc := ⟨.hbm, 296, rfl⟩
abbrev main_v158 : Ref sig .tc := ⟨.hbm, 297, rfl⟩
abbrev main_v159 : Ref sig .tc := ⟨.hbm, 298, rfl⟩
abbrev main_cst_51 : Ref sig .tc := ⟨.hbm, 299, rfl⟩
abbrev main_v160 : Ref sig .tc := ⟨.hbm, 300, rfl⟩
abbrev main_v161 : Ref sig .tc := ⟨.hbm, 301, rfl⟩
abbrev main_v162 : Ref sig .tc := ⟨.hbm, 302, rfl⟩
abbrev main_v163 : Ref sig .tc := ⟨.hbm, 303, rfl⟩
abbrev main_cst_52 : Ref sig .tc := ⟨.hbm, 304, rfl⟩
abbrev main_v164 : Ref sig .tc := ⟨.hbm, 305, rfl⟩
abbrev main_v165 : Ref sig .tc := ⟨.hbm, 306, rfl⟩
abbrev main_v166 : Ref sig .tc := ⟨.hbm, 307, rfl⟩
abbrev main_v167 : Ref sig .tc := ⟨.hbm, 308, rfl⟩
abbrev main_v168 : Ref sig .tc := ⟨.hbm, 309, rfl⟩
abbrev main_v169 : Ref sig .tc := ⟨.hbm, 310, rfl⟩
abbrev main_v170 : Ref sig .tc := ⟨.hbm, 311, rfl⟩
abbrev main_v171 : Ref sig .tc := ⟨.hbm, 312, rfl⟩
abbrev main_cst_53 : Ref sig .tc := ⟨.hbm, 313, rfl⟩
abbrev main_v172 : Ref sig .tc := ⟨.hbm, 314, rfl⟩
abbrev main_v173 : Ref sig .tc := ⟨.hbm, 315, rfl⟩
abbrev main_v174 : Ref sig .tc := ⟨.hbm, 316, rfl⟩
abbrev main_v175 : Ref sig .tc := ⟨.hbm, 317, rfl⟩
abbrev main_cst_54 : Ref sig .tc := ⟨.hbm, 318, rfl⟩
abbrev main_call17_v0 : Ref sig .tc := ⟨.hbm, 319, rfl⟩
abbrev main_call17_v1 : Ref sig .tc := ⟨.hbm, 320, rfl⟩
abbrev main_v176 : Ref sig .tc := ⟨.hbm, 321, rfl⟩
abbrev main_cst_55 : Ref sig .tc := ⟨.hbm, 322, rfl⟩
abbrev main_v177 : Ref sig .tc := ⟨.hbm, 323, rfl⟩
abbrev main_v178 : Ref sig .tc := ⟨.hbm, 324, rfl⟩
abbrev main_cst_56 : Ref sig .tc := ⟨.hbm, 325, rfl⟩
abbrev main_v179 : Ref sig .tc := ⟨.hbm, 326, rfl⟩
abbrev main_v180 : Ref sig .tc := ⟨.hbm, 327, rfl⟩

abbrev nD : Nat := 1
abbrev τ : Topo := Topo.v7x

variable {F : FTy → Type} [FloatOps F]
-- ==== Proof.Spline.lean ====
/-
  The mathematics of one element: a rational quadratic spline on `[-1, 1]` with 32 bins, whose bin sizes are a softmax
  bounded below. Nothing here is about either program; everything is about real numbers and extended reals.

  * `knot u k`: the `k`-th knot, from the prefix sums of the exponentials of the 32 scores `u`.
  * `InBin u x k`: the point `x` lies in bin `k`. Every point of `[-1, 1)` lies in exactly one bin.
  * `outcome`: the logarithm both programs compute, from the bin's numbers.
-/
module

public import Idealize.ShloMosaic.PureOps.Ideal.Laws
public import Idealize.ShloMosaic.Lib.IdealHost

@[expose] public section

noncomputable section

namespace Cert.Spline

open Idealize.ShloMosaic
open scoped BigOperators

/-! ## The knots -/

/-- The sum of the exponentials of the scores. -/
def total (u : Fin 32 → ℝ) : ℝ := ∑ j, Real.exp (u j)

/-- The sum of the exponentials of the first `k` scores. -/
def head (u : Fin 32 → ℝ) (k : ℕ) : ℝ := ∑ j : Fin 32, if j.val < k then Real.exp (u j) else 0

/-- The share of bin `k` in the softmax. -/
def share (u : Fin 32 → ℝ) (k : Fin 32) : ℝ := Real.exp (u k) / total u

/-- The `k`-th knot: `-1` plus the sizes of the first `k` bins, each `1/500` plus `242/125` times its share. -/
def knot (u : Fin 32 → ℝ) (k : ℕ) : ℝ := 1 / 500 * k - 1 + 242 / 125 / total u * head u k

theorem total_pos (u : Fin 32 → ℝ) : 0 < total u :=
  Finset.sum_pos (fun j _ => Real.exp_pos (u j)) Finset.univ_nonempty

/-- Before the first bin nothing has been summed. -/
theorem head_zero (u : Fin 32 → ℝ) : head u 0 = 0 := by simp [head]

/-- All 32 bins together are the total. -/
theorem head_last (u : Fin 32 → ℝ) : head u 32 = total u := by
  unfold head total
  exact Finset.sum_congr rfl fun j _ => if_pos j.isLt

/-- One more bin adds that bin's exponential. -/
theorem head_succ (u : Fin 32 → ℝ) (k : Fin 32) : head u (k.val + 1) = head u k.val + Real.exp (u k) := by
  unfold head
  have h : ∀ j : Fin 32, (if j.val < k.val + 1 then Real.exp (u j) else 0)
      = (if j.val < k.val then Real.exp (u j) else 0) + (if j = k then Real.exp (u j) else 0) := by
    intro j
    by_cases hj : j = k
    · subst hj; simp
    · have hne : j.val ≠ k.val := fun e => hj (Fin.ext e)
      by_cases hlt : j.val < k.val
      · rw [if_pos hlt, if_pos (by omega), if_neg hj, add_zero]
      · rw [if_neg hlt, if_neg (by omega), if_neg hj, add_zero]
  rw [Finset.sum_congr rfl fun j _ => h j, Finset.sum_add_distrib, Finset.sum_ite_eq' Finset.univ k, if_pos (Finset.mem_univ k)]

/-- The first knot is the left end. -/
theorem knot_zero (u : Fin 32 → ℝ) : knot u 0 = -1 := by simp [knot, head_zero]

/-- The last knot is the right end: the sizes of the 32 bins add up to two. -/
theorem knot_last (u : Fin 32 → ℝ) : knot u 32 = 1 := by
  have := (total_pos u).ne'
  rw [knot, head_last]; field_simp; norm_num

/-- The size of a bin. -/
theorem knot_succ_sub (u : Fin 32 → ℝ) (k : Fin 32) :
    knot u (k.val + 1) - knot u k.val = 1 / 500 + 242 / 125 * share u k := by
  have := (total_pos u).ne'
  simp only [knot, head_succ, share]; push_cast; field_simp; ring

/-- Every bin has a positive size. -/
theorem size_pos (u : Fin 32 → ℝ) (k : Fin 32) : 0 < knot u (k.val + 1) - knot u k.val := by
  rw [knot_succ_sub]
  have : 0 < share u k := div_pos (Real.exp_pos _) (total_pos u)
  positivity

theorem knot_lt_succ (u : Fin 32 → ℝ) {k : ℕ} (hk : k < 32) : knot u k < knot u (k + 1) :=
  sub_pos.1 (size_pos u ⟨k, hk⟩)

/-- The knots do not decrease. -/
theorem knot_mono (u : Fin 32 → ℝ) {i j : ℕ} (hij : i ≤ j) (hj : j ≤ 32) : knot u i ≤ knot u j := by
  induction j with
  | zero => obtain rfl : i = 0 := by omega
            exact le_rfl
  | succ j ih =>
    rcases Nat.lt_or_ge i (j + 1) with h | h
    · exact (ih (by omega) (by omega)).trans (knot_lt_succ u (by omega)).le
    · obtain rfl : i = j + 1 := by omega
      exact le_rfl

/-! ## The bin of a point -/

/-- The point `x` lies in bin `k`: between knot `k`, included, and knot `k + 1`, excluded. -/
def InBin (u : Fin 32 → ℝ) (x : ℝ) (k : Fin 32) : Prop := knot u k.val ≤ x ∧ x < knot u (k.val + 1)

/-- Every point of `[-1, 1)` lies in a bin. -/
theorem exists_inBin (u : Fin 32 → ℝ) {x : ℝ} (h0 : -1 ≤ x) (h1 : x < 1) : ∃ k, InBin u x k := by
  have key : ∀ n : ℕ, n ≤ 32 → x < knot u n → ∃ k, InBin u x k := by
    intro n
    induction n with
    | zero => intro _ h; rw [knot_zero] at h; exact absurd h (not_lt.2 h0)
    | succ n ih =>
      intro hn h
      rcases lt_or_ge x (knot u n) with hlt | hge
      · exact ih (by omega) hlt
      · exact ⟨⟨n, by omega⟩, hge, h⟩
  exact key 32 le_rfl (by rw [knot_last]; exact h1)

/-- The knots not above a point of bin `k` are the first `k + 1`. -/
theorem knot_le_iff {u : Fin 32 → ℝ} {x : ℝ} {k : Fin 32} (h : InBin u x k) {j : ℕ} (hj : j ≤ 32) :
    knot u j ≤ x ↔ j ≤ k.val := by
  constructor
  · intro hle
    by_contra hlt
    exact absurd (lt_of_lt_of_le h.2 (knot_mono u (by omega : k.val + 1 ≤ j) hj)) (not_lt.2 hle)
  · intro hle
    exact (knot_mono u hle (by have := k.isLt; omega)).trans h.1

/-- A point lies in one bin only. -/
theorem inBin_iff {u : Fin 32 → ℝ} {x : ℝ} {k : Fin 32} (h : InBin u x k) (j : Fin 32) : InBin u x j ↔ j = k := by
  constructor
  · rintro ⟨ha, hb⟩
    have h1 := (knot_le_iff h (by have := j.isLt; omega)).1 ha
    have h2 : ¬ (j.val + 1 ≤ k.val) := fun e => absurd ((knot_le_iff h (by have := j.isLt; omega)).2 e) (not_le.2 hb)
    exact Fin.ext (by omega)
  · rintro rfl; exact h

/-! ## The logarithm from the bin's numbers -/

/-- The derivative at a knot inside the interval: `1/1000` plus the softplus of its score. -/
def slope (y : ℝ) : EReal :=
  ((1 / 1000 : ℝ) : EReal) + (max (y : EReal) 0 + Ideal.log1p (Ideal.exp (-(max (y : EReal) (-(y : EReal))))))

/-- The logarithm of the derivative of the inverse spline at a point, less the two constants that rescale it, from the
    point's distance `dy` to the bin's lower edge, the bin's height `ih`, its slope `idl` and the derivatives `d0`, `d1` at
    its two ends. -/
def logDerivative (dy ih idl d0 d1 : EReal) : EReal :=
  let common := d0 + d1 - 2 * idl
  let a := dy * common + ih * (idl - d0)
  let b := ih * d0 - dy * common
  let c := -idl * dy
  let root := Ideal.div (2 * c) (-b - Ideal.sqrt (max (b * b - 4 * a * c) 0))
  let t := root * (1 - root)
  Ideal.ofBits .f32 0xBF317218#32
    - (Ideal.log (idl * idl * (d1 * root * root + 2 * idl * t + d0 * (1 - root) * (1 - root)))
      - 2 * Ideal.log (idl + common * t))

/-- The result at a point `x` in bin `k`, from the scores `uh` of the heights, `uw` of the widths and `ud` of the 31
    derivatives inside the interval (`ud j` belongs to knot `j + 1`; the two outer knots have derivative one). -/
def outcome (x : ℝ) (uh uw : Fin 32 → ℝ) (ud : ℕ → ℝ) (k : Fin 32) : EReal :=
  logDerivative ((x - knot uh k.val : ℝ) : EReal) ((knot uh (k.val + 1) - knot uh k.val : ℝ) : EReal)
    (((knot uh (k.val + 1) - knot uh k.val) / (knot uw (k.val + 1) - knot uw k.val) : ℝ) : EReal)
    (if k.val = 0 then 1 else slope (ud (k.val - 1))) (if k.val = 31 then 1 else slope (ud k.val))

/-! ## The numbers of one element -/

/-- The scores of the widths. -/
def uw (d : ℕ → ℝ) (j : Fin 32) : ℝ := d j.val
/-- The scores of the heights. -/
def uh (d : ℕ → ℝ) (j : Fin 32) : ℝ := d (32 + j.val)
/-- The inputs of the inner derivatives. -/
def ud (w : ℝ) (d : ℕ → ℝ) (j : ℕ) : ℝ := d (64 + j) + w
/-- The value moved from `[0, 1)` to `[-1, 1)`. -/
def moved (v : ℝ) : ℝ := (v - 1 / 2) * 2

/-! ## Extended reals -/

/-- The quotient of two reals. -/
theorem div_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The exponential of a real. -/
theorem exp_coe (a : ℝ) : Ideal.exp (a : EReal) = ((Real.exp a : ℝ) : EReal) := rfl

/-- A finite sum of reals. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

end Cert.Spline

end
-- ==== Proof.Consts.lean ====
/-
  The float words that occur in the two programs, as extended reals.
-/
module

public import Idealize.ShloMosaic.PureOps.Ideal.Laws
public import Idealize.ShloMosaic.Lib.IdealHost

@[expose] public section

noncomputable section

namespace Cert.Consts

open Idealize.ShloMosaic

/-- The pattern of one. -/
theorem ofBits_one : Ideal.ofBits .f32 0x3F800000#32 = 1 := by
  rw [show (1 : EReal) = ((1 : ℝ) : EReal) by norm_cast]
  simp [Ideal.ofBits, Ideal.ieee, -EReal.coe_mul]; norm_num

/-- The pattern of two. -/
theorem ofBits_two : Ideal.ofBits .f32 0x40000000#32 = 2 := by
  rw [show (2 : EReal) = ((2 : ℝ) : EReal) by norm_cast]
  simp [Ideal.ofBits, Ideal.ieee, -EReal.coe_mul]; norm_num

/-- The pattern of four. -/
theorem ofBits_four : Ideal.ofBits .f32 0x40800000#32 = 4 := by
  rw [show (4 : EReal) = ((4 : ℝ) : EReal) by norm_cast]
  simp [Ideal.ofBits, Ideal.ieee, -EReal.coe_mul]; norm_num

/-- The pattern of thirty-two. -/
theorem ofBits_thirty_two : Ideal.ofBits .f32 0x42000000#32 = ((32 : ℝ) : EReal) := by
  simp [Ideal.ofBits, Ideal.ieee, -EReal.coe_mul]; norm_num

/-- The pattern of a thousand. -/
theorem ofBits_thousand : Ideal.ofBits .f32 0x447A0000#32 = ((1000 : ℝ) : EReal) := by
  simp [Ideal.ofBits, Ideal.ieee, -EReal.coe_mul]; norm_num

/-- The pattern of one half. -/
theorem ofBits_half : Ideal.ofBits .f32 0x3F000000#32 = ((1 / 2 : ℝ) : EReal) := by
  simp [Ideal.ofBits, Ideal.ieee, -EReal.coe_mul]; norm_num

/-- The pattern of minus one. -/
theorem ofBits_neg_one : Ideal.ofBits .f32 0xBF800000#32 = ((-1 : ℝ) : EReal) := by
  simp [Ideal.ofBits, Ideal.ieee, -EReal.coe_mul, -EReal.coe_neg]; norm_num

/-- The pattern of minus infinity. -/
theorem ofBits_bot : Ideal.ofBits .f32 0xFF800000#32 = ⊥ := by
  simp [Ideal.ofBits, Ideal.ieee]

/-- The pattern of infinity. -/
theorem ofBits_top : Ideal.ofBits .f32 0x7F800000#32 = ⊤ := by
  simp [Ideal.ofBits, Ideal.ieee]

end Cert.Consts

end
-- ==== Proof.Block.lean ====
/-
  What one block of the kernel computes, at one lane of the block's inputs.

  A lane holds one real value `v`, a column of 95 real scores `d` and the shared real offset `w`. The scores `d 0 … d 31`
  are those of the widths, `d 32 … d 63` those of the heights, and `d 64 … d 94`, with the offset added, set the inner
  derivatives. Each theorem below reads one of the body's vectors at that lane; the last one reads the block's result.
-/
module

public import proofs.«01_k».proof.Proof.Spline
public import proofs.«01_k».proof.Proof.Consts
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Block

open Cert.KernelIdeal Cert.KernelIdeal.Gen Cert.Spline Cert.Consts Idealize.ShloMosaic

/-! ## Named constants, one-bit masks and sums that a mask selects from -/

/-- The scale of the heights and widths. -/
theorem named_span : (Named.named κ "span_twice" 0x3FF7CED9#32 : Ideal .f32) = ((242 / 125 : ℝ) : EReal) :=
  IdealRules.named_const.ideal_named_scalar _ _ _ _ rfl

/-- The least height and width. -/
theorem named_min : (Named.named κ "min_twice" 0x3B03126F#32 : Ideal .f32) = ((1 / 500 : ℝ) : EReal) :=
  IdealRules.named_const.ideal_named_scalar _ _ _ _ rfl

/-- The least derivative. -/
theorem named_least : (Named.named κ "min_size" 0x3A83126F#32 : Ideal .f32) = ((1 / 1000 : ℝ) : EReal) :=
  IdealRules.named_const.ideal_named_scalar _ _ _ _ rfl

/-- A sum over a one-hot mask is the entry the mask marks. -/
theorem sum_one_hot {n : ℕ} (k : Fin n) (f : Fin n → EReal) (m : Fin n → BitVec 1)
    (hm : ∀ j, m j = BitVec.ofBool (decide (j = k))) : ∑ j, Scalar.select (m j) (f j) 0 = f k := by
  rw [Finset.sum_eq_single k]
  · simp [hm, Scalar.select]
  · intro j _ hj; simp [hm, hj, Scalar.select]
  · simp

/-- The triangular mask of ones and zeros. -/
theorem triangle (x k : Fin 32) :
    (FloatOps.sitofp FTy.f32 (BitVec.setWidth 32 (IntOp.cmpi CmpIPredicate.sle (BitVec.ofNat 32 x.val) (BitVec.ofNat 32 k.val))) : Ideal .f32)
      = ((if x.val < k.val + 1 then 1 else 0 : ℝ) : EReal) := by
  have h : IntOp.cmpi CmpIPredicate.sle (BitVec.ofNat 32 x.val) (BitVec.ofNat 32 k.val) = BitVec.ofBool (decide (x.val < k.val + 1)) := by
    revert x k; decide +kernel
  rw [h]
  by_cases hx : x.val < k.val + 1 <;> simp [hx, FloatOps.sitofp]

/-- The number of a row, as a real. -/
theorem row_number (k : Fin 32) : (FloatOps.sitofp FTy.f32 (BitVec.ofNat 32 k.val) : Ideal .f32) = ((k.val : ℝ) : EReal) := by
  have h : (BitVec.ofNat 32 k.val).toInt = k.val := by revert k; decide +kernel
  simp [FloatOps.sitofp, h]

/-! ## The lane -/

variable {x0 : Vec Ideal S1x8192 .f32} {x1 : Vec Ideal S95x8192 .f32} {x2 : Vec Ideal S95x1 .f32}
variable {p : Fin 8192} {v w : ℝ} {d : ℕ → ℝ}

/-- The value, moved from `[0, 1)` to `[-1, 1)`. -/
theorem at_value (h : x0 (ix2 0 p) = (v : EReal)) : k0_pay5 x0 (ix2 0 p) = ((moved v : ℝ) : EReal) := by
  pointwise [k0_pay5]
  rw [h, ofBits_two, ofBits_half, ← EReal.coe_one, div_coe _ one_ne_zero, div_one, moved,
    show (2 : EReal) = ((2 : ℝ) : EReal) from rfl, ← EReal.coe_sub, ← EReal.coe_mul]

section Scores
variable (h1 : ∀ j : Fin 95, x1 (ix2 j p) = ((d j.val : ℝ) : EReal))
include h1

theorem at_exps (k : Fin 64) : k0_pay6 x1 (ix2 k p) = ((Real.exp (d k.val) : ℝ) : EReal) := by
  pointwise [k0_pay6, k0_pay2]
  rw [h1, exp_coe]

theorem at_height_exps (k : Fin 32) : k0_pay7 x1 (ix2 k p) = ((Real.exp (uh d k) : ℝ) : EReal) := by
  pointwise [k0_pay7]
  rw [at_exps h1, uh]

theorem at_width_total : k0_pay8 x1 (ix2 0 p) = ((total (uw d) : ℝ) : EReal) := by
  pointwise [k0_pay8]
  simp only [at_exps h1, sum_coe, total, uw]

theorem at_heads (k : Fin 32) : k0_pay9 x1 (ix2 k p) = ((head (uh d) (k.val + 1) : ℝ) : EReal) := by
  pointwise [k0_pay9, dot_S32x32_S32x8192_S32x8192_1_0_0_1_n_n]
  simp only [at_height_exps h1, triangle, ← EReal.coe_sub, sub_self, ← EReal.coe_mul, sum_coe, mul_zero,
    Finset.sum_const_zero, EReal.coe_zero, add_zero, head]
  congr 1
  exact Finset.sum_congr rfl fun j _ => by split_ifs <;> simp

theorem at_height_total : k0_pay10 x1 (ix2 0 p) = ((total (uh d) : ℝ) : EReal) := by
  pointwise [k0_pay10]
  rw [at_heads h1, ← head_last]; rfl

theorem at_scale : k0_pay11 x1 (ix2 0 p) = ((242 / 125 / total (uh d) : ℝ) : EReal) := by
  pointwise [k0_pay11]
  rw [at_height_total h1, named_span, div_coe _ (total_pos _).ne']

end Scores

theorem at_least (k : Fin 32) : k0_pay12 (F := Ideal) (ix2 k p) = ((1 / 500 * (k.val + 1) : ℝ) : EReal) := by
  pointwise [k0_pay12]
  rw [named_min, row_number, ← EReal.coe_one, ← EReal.coe_add, ← EReal.coe_mul]

/-! ## Finding the bin -/

section Bin
variable {x : ℝ} {u : Fin 32 → ℝ} {k : Fin 32}
variable {v14 : FVec Ideal S1x8192 .f32} {v15 : IVec S32x8192 32} {v35 : FVec Ideal S32x8192 .f32}
variable {v38 : FVec Ideal S1x8192 .f32} {v42 : FVec Ideal S32x8192 .f32}
variable (e14 : v14 (ix2 0 p) = (x : EReal)) (e15 : ∀ j : Fin 32, v15 (ix2 j p) = BitVec.ofNat 32 j.val)
variable (e35 : ∀ j : Fin 32, v35 (ix2 j p) = ((head u (j.val + 1) : ℝ) : EReal))
variable (e38 : v38 (ix2 0 p) = ((242 / 125 / total u : ℝ) : EReal))
variable (e42 : ∀ j : Fin 32, v42 (ix2 j p) = ((1 / 500 * (j.val + 1) : ℝ) : EReal))

theorem is_row (j : Fin 32) (n : Fin 32) :
    IntOp.cmpi CmpIPredicate.eq (BitVec.ofNat 32 j.val) (BitVec.ofNat 32 n.val) = BitVec.ofBool (decide (j = n)) := by
  revert j n; decide +kernel

section
include e15 e35 e38 e42

theorem at_upper (j : Fin 32) : k0_pay13 (F := Ideal) v15 v35 v38 v42 (ix2 j p) = ((knot u (j.val + 1) : ℝ) : EReal) := by
  pointwise [k0_pay13]
  rw [e15, e35, e38, e42, show (31#32 : BitVec 32) = BitVec.ofNat 32 (31 : Fin 32).val from rfl, is_row, ← EReal.coe_one, ← EReal.coe_sub, ← EReal.coe_mul, ← EReal.coe_add]
  by_cases hj : j = 31
  · subst hj
    have := knot_last u
    simp [Scalar.select, this]
  · simp [hj, Scalar.select, knot]

theorem at_lower (j : Fin 32) : k0_pay14 (F := Ideal) v15 v35 v38 v42 (ix2 j p) = ((knot u j.val : ℝ) : EReal) := by
  pointwise [k0_pay14]
  rw [e15, show (0#32 : BitVec 32) = BitVec.ofNat 32 (0 : Fin 32).val from rfl, is_row, ofBits_neg_one]
  by_cases hj : j = 0
  · subst hj
    simp [Scalar.select, knot_zero]
  · have hv : ¬ j.val < 1 := fun h => hj (Fin.ext (by simpa using h))
    rw [dif_neg hv, at_upper e15 e35 e38 e42]
    simp only [hj, Scalar.select, Nat.sub_add_cancel (Nat.not_lt.1 hv)]
    simp

variable (hk : InBin u x k)
include e14 hk

theorem at_mask (j : Fin 32) :
    k0_pay15 (F := Ideal) v14 v15 v35 v38 v42 (ix2 j p) = BitVec.ofBool (decide (j = k)) := by
  pointwise [k0_pay15]
  rw [at_upper e15 e35 e38 e42, at_lower e15 e35 e38 e42, e14]
  have h := inBin_iff hk j
  simp only [EReal.coe_le_coe_iff, EReal.coe_lt_coe_iff]
  unfold InBin at h
  by_cases hj : j = k
  · subst hj
    simp [hk.1, hk.2, IntOp.andi]
  rw [decide_eq_false hj]
  have := mt h.1 hj
  by_cases ha : knot u j.val ≤ x <;> by_cases hb : x < knot u (j.val + 1)
  · exact absurd ⟨ha, hb⟩ this
  all_goals simp [ha, hb, IntOp.andi]

theorem at_edge : k0_pay16 (F := Ideal) v14 v15 v35 v38 v42 (ix2 0 p) = ((knot u k.val : ℝ) : EReal) := by
  pointwise [k0_pay16]
  rw [sum_one_hot k _ _ (at_mask e14 e15 e35 e38 e42 hk), at_lower e15 e35 e38 e42]

theorem at_height {v22 : FVec Ideal S32x8192 .f32} {v36 : FVec Ideal S1x8192 .f32}
    (e22 : ∀ j : Fin 32, v22 (ix2 j p) = ((Real.exp (u j) : ℝ) : EReal)) (e36 : v36 (ix2 0 p) = ((total u : ℝ) : EReal)) :
    k0_pay17 (F := Ideal) v14 v15 v22 v35 v36 v38 v42 (ix2 0 p) = ((knot u (k.val + 1) - knot u k.val : ℝ) : EReal) := by
  pointwise [k0_pay17]
  rw [sum_one_hot k _ _ (at_mask e14 e15 e35 e38 e42 hk), e22, e36, div_coe _ (total_pos u).ne', named_min, named_span,
    ← EReal.coe_mul, ← EReal.coe_add, knot_succ_sub, share]

theorem at_width {v21 : FVec Ideal S64x8192 .f32} {v24 : FVec Ideal S1x8192 .f32} {t : Fin 32 → ℝ}
    (e21 : ∀ j : Fin 32, v21 (ix2 ⟨j.val, by have := j.isLt; omega⟩ p) = ((Real.exp (t j) : ℝ) : EReal))
    (e24 : v24 (ix2 0 p) = ((total t : ℝ) : EReal)) :
    k0_pay18 (F := Ideal) v14 v15 v21 v24 v35 v38 v42 (ix2 0 p) = ((knot t (k.val + 1) - knot t k.val : ℝ) : EReal) := by
  pointwise [k0_pay18]
  rw [sum_one_hot k _ _ (at_mask e14 e15 e35 e38 e42 hk), e21, e24, div_coe _ (total_pos t).ne', named_min, named_span,
    ← EReal.coe_mul, ← EReal.coe_add, knot_succ_sub, share]

theorem at_inner_mask (j : Fin 31) :
    k0_pay19 (F := Ideal) v14 v15 v35 v38 v42 (ix2 j p) = BitVec.ofBool (decide (j.val = k.val)) := by
  pointwise [k0_pay19]
  rw [at_mask e14 e15 e35 e38 e42 hk]
  simp [Fin.ext_iff]

end
end Bin

/-- The body's form of the softplus is the slope less its least value. -/
theorem softplus_real (y : ℝ) : (if (y : EReal) ≠ (y : EReal) then (y : EReal) else
    max (y : EReal) 0 + Ideal.log1p (Ideal.exp (0 - (FloatOps.absf (F := Ideal) (φ := .f32) y : EReal)))) =
    max (y : EReal) 0 + Ideal.log1p (Ideal.exp (-(max (y : EReal) (-(y : EReal))))) := by
  rw [if_neg (by simp), zero_sub]; rfl

/-- One half lies between zero and one. -/
theorem half_lt (b : Bool) : (Ideal.ofBits .f32 0x3F000000#32 < Scalar.select (BitVec.ofBool b) (1 : EReal) 0) ↔ b = true := by
  rw [ofBits_half]
  cases b
  · simp [Scalar.select]
  · simp only [Scalar.select]
    have : ((1 / 2 : ℝ) : EReal) < ((1 : ℝ) : EReal) := EReal.coe_lt_coe_iff.2 (by norm_num)
    simpa using this

/-- The derivative at the bin's upper edge. -/
theorem at_upper_slope {v2 : FVec Ideal S31x8192 .f32} {v4 : FVec Ideal S1x1 .f32} {v63 : IVec S32x8192 1} {v87 : IVec S31x8192 1}
    {r : Fin 8} {l : Fin 1024} {p : Fin 8192} (hp : p.val = r.val * 1024 + l.val) {k : Fin 32} {f : ℕ → ℝ}
    (e2 : ∀ j : Fin 31, v2 (ix2 j p) = ((f j.val : ℝ) : EReal)) (e4 : v4 (ix2 0 0) = (w : EReal))
    (e63 : ∀ j : Fin 32, v63 (ix2 j p) = BitVec.ofBool (decide (j = k)))
    (e87 : ∀ j : Fin 31, v87 (ix2 j p) = BitVec.ofBool (decide (j.val = k.val))) :
    k0_pay24 (F := Ideal) v2 v4 v63 v87 (ix2 r l) = if k.val = 31 then 1 else slope (f k.val + w) := by
  pointwise [k0_pay24]
  rw [show (⟨r.val * 1024 + l.val, by omega⟩ : Fin 8192) = p from Fin.ext hp.symm, e63]
  simp only [half_lt, decide_eq_true_eq]
  by_cases hk : k.val = 31
  · rw [if_pos (Fin.ext hk.symm), if_pos hk]
  · have hlt : k.val < 31 := by have := k.isLt; omega
    rw [if_neg (fun h => hk (congrArg Fin.val h).symm), if_neg hk,
      sum_one_hot (⟨k.val, hlt⟩ : Fin 31) _ _ (fun j => by rw [e87]; simp [Fin.ext_iff]), e2, e4, ← EReal.coe_add,
      softplus_real, named_least]
    rfl

/-- The mark of the first row, as one or zero. -/
theorem at_first {v63 : IVec S32x8192 1} {r : Fin 8} {l : Fin 1024} {p : Fin 8192} (hp : p.val = r.val * 1024 + l.val)
    {k : Fin 32} (e63 : ∀ j : Fin 32, v63 (ix2 j p) = BitVec.ofBool (decide (j = k))) :
    k0_pay25 (F := Ideal) v63 (ix2 r l) = Scalar.select (BitVec.ofBool (decide (0 = k))) 1 0 := by
  pointwise [k0_pay25]
  rw [show (⟨r.val * 1024 + l.val, by omega⟩ : Fin 8192) = p from Fin.ext hp.symm, e63]
  by_cases h : (0 : Fin 32) = k <;> simp [Scalar.select, h]

/-- The input of the derivative at the bin's lower edge. -/
theorem at_lower_score {v0 : FVec Ideal S95x8192 .f32} {v63 : IVec S32x8192 1} {k : Fin 32}
    (e0 : ∀ j : Fin 95, v0 (ix2 j p) = ((d j.val : ℝ) : EReal))
    (e63 : ∀ j : Fin 32, v63 (ix2 j p) = BitVec.ofBool (decide (j = k))) (hk : k.val ≠ 0) :
    k0_pay20 (F := Ideal) v0 v63 (ix2 0 p) = ((d (64 + (k.val - 1)) : ℝ) : EReal) := by
  pointwise [k0_pay20]
  rw [sum_one_hot k _ _ e63, e0]
  congr 2
  show 63 + k.val = _
  omega

/-- The derivative at the bin's lower edge. -/
theorem at_lower_slope {v4 : FVec Ideal S1x1 .f32} {v96 : FVec Ideal S1x8192 .f32} {v134 : FVec Ideal S8x1024 .f32}
    {r : Fin 8} {l : Fin 1024} {p : Fin 8192} (hp : p.val = r.val * 1024 + l.val) {k : Fin 32} {y : ℝ}
    (e4 : v4 (ix2 0 0) = (w : EReal)) (e96 : k.val ≠ 0 → v96 (ix2 0 p) = (y : EReal))
    (e134 : v134 (ix2 r l) = Scalar.select (BitVec.ofBool (decide (0 = k))) 1 0) :
    k0_pay26 (F := Ideal) v4 v96 v134 (ix2 r l) = if k.val = 0 then 1 else slope (y + w) := by
  pointwise [k0_pay26]
  rw [show (⟨r.val * 1024 + l.val, by omega⟩ : Fin 8192) = p from Fin.ext hp.symm, e134]
  simp only [half_lt, decide_eq_true_eq]
  by_cases hk : k.val = 0
  · rw [if_pos (Fin.ext hk.symm), if_pos hk]
  · rw [if_neg (fun h => hk (congrArg Fin.val h).symm), if_neg hk, e96 hk, e4, ← EReal.coe_add,
      softplus_real, named_least]
    rfl

/-- The last stage, from the bin's quantities. -/
theorem at_last {v4 : FVec Ideal S1x1 .f32} {v96 : FVec Ideal S1x8192 .f32} {v106 v107 v109 v133 v134 : FVec Ideal S8x1024 .f32}
    {r : Fin 8} {l : Fin 1024} :
    k0_pay1 v109 v133 (k0_pay26 v4 v96 v134) (k0_pay27 v4 v96 v109 v133 v134) (k0_pay30 v106 v109)
      (k0_pay31 v4 v96 v106 v107 v109 v133 v134) (k0_pay32 v4 v96 v106 v107 v109 v133 v134) (ix3 0 r l)
    = logDerivative (v106 (ix2 r l)) (v107 (ix2 r l)) (v109 (ix2 r l)) (k0_pay26 v4 v96 v134 (ix2 r l)) (v133 (ix2 r l)) := by
  pointwise [k0_pay1, k0_pay27, k0_pay28, k0_pay29, k0_pay30, k0_pay31, k0_pay32]
  simp only [logDerivative, ofBits_two, ofBits_four, zero_sub]

/-- The block's result at row `r` and column `l`: the logarithm of the derivative at the lane `1024 r + l`. -/
theorem at_result {r : Fin 8} {l : Fin 1024} {p : Fin 8192} (hp : p.val = r.val * 1024 + l.val)
    (h0 : x0 (ix2 0 p) = (v : EReal)) (h1 : ∀ j : Fin 95, x1 (ix2 j p) = ((d j.val : ℝ) : EReal))
    (h2 : x2 (ix2 64 0) = (w : EReal)) {k : Fin 32} (hk : InBin (uh d) (moved v) k) :
    out0_3 x0 x1 x2 (ix3 0 r l) = outcome (moved v) (uh d) (uw d) (ud w d) k := by
  have e0 : View.ld x0 r0_2 (ix2 0 p) = (v : EReal) := by pointwise; exact h0
  have e1 : ∀ j : Fin 95, View.ld x1 r0_0 (ix2 j p) = ((d j.val : ℝ) : EReal) := fun j => by pointwise; exact h1 j
  have e2 : k0_pay34 x0 x1 x2 (ix2 0 0) = (w : EReal) := by
    unfold k0_pay34; pointwise [k0_pay4]; exact h2
  have e14 : k0_pay35 x0 x1 x2 (ix2 0 p) = ((moved v : ℝ) : EReal) := at_value e0
  have e15 : ∀ j : Fin 32, k0_pay33 x0 x1 x2 (ix2 j p) = BitVec.ofNat 32 j.val := fun j => by
    unfold k0_pay33; pointwise
  have e35 : ∀ j : Fin 32, k0_pay36 x0 x1 x2 (ix2 j p) = ((head (uh d) (j.val + 1) : ℝ) : EReal) := at_heads e1
  have e38 : k0_pay37 x0 x1 x2 (ix2 0 p) = ((242 / 125 / total (uh d) : ℝ) : EReal) := at_scale e1
  have e42 : ∀ j : Fin 32, k0_pay38 x0 x1 x2 (ix2 j p) = ((1 / 500 * (j.val + 1) : ℝ) : EReal) := at_least
  have e63 : ∀ j : Fin 32, k0_pay39 x0 x1 x2 (ix2 j p) = BitVec.ofBool (decide (j = k)) := at_mask e14 e15 e35 e38 e42 hk
  have e76 : k0_pay40 x0 x1 x2 (ix2 0 p) = ((knot (uh d) (k.val + 1) - knot (uh d) k.val : ℝ) : EReal) :=
    at_height e14 e15 e35 e38 e42 hk (at_height_exps e1) (at_height_total e1)
  have hq : (⟨r.val * 1024 + l.val, by omega⟩ : Fin 8192) = p := Fin.ext hp.symm
  have e106 : k0_pay42 x0 x1 x2 (ix2 r l) = ((moved v - knot (uh d) k.val : ℝ) : EReal) := by
    unfold k0_pay42; pointwise [k0_pay21]
    rw [hq, e14, at_edge e14 e15 e35 e38 e42 hk, EReal.coe_sub]
  have e107 : k0_pay43 x0 x1 x2 (ix2 r l) = ((knot (uh d) (k.val + 1) - knot (uh d) k.val : ℝ) : EReal) := by
    unfold k0_pay43; pointwise [k0_pay22]
    rw [hq, e76]
  have e109 : k0_pay44 x0 x1 x2 (ix2 r l) = (((knot (uh d) (k.val + 1) - knot (uh d) k.val)
      / (knot (uw d) (k.val + 1) - knot (uw d) k.val) : ℝ) : EReal) := by
    unfold k0_pay44; pointwise [k0_pay23, k0_pay22]
    rw [hq, e76, at_width e14 e15 e35 e38 e42 hk (fun j => at_exps e1 _) (at_width_total e1),
      div_coe _ (size_pos _ _).ne']
    rfl
  have e133 : k0_pay45 x0 x1 x2 (ix2 r l) = if k.val = 31 then 1 else slope (ud w d k.val) :=
    at_upper_slope (f := fun j => d (64 + j)) hp (fun j => by pointwise [k0_pay3, k0_pay2]; exact h1 _) e2 e63
      (at_inner_mask e14 e15 e35 e38 e42 hk)
  have e96 : k.val ≠ 0 → k0_pay41 x0 x1 x2 (ix2 0 p) = ((d (64 + (k.val - 1)) : ℝ) : EReal) := fun h =>
    at_lower_score (fun j => by pointwise [k0_pay2]; exact h1 j) e63 h
  have e157 : k0_pay26 (k0_pay34 x0 x1 x2) (k0_pay41 x0 x1 x2) (k0_pay46 x0 x1 x2) (ix2 r l)
      = if k.val = 0 then 1 else slope (ud w d (k.val - 1)) := at_lower_slope hp e2 e96 (at_first hp e63)
  unfold out0_3
  frame_out
  rw [at_last, e106, e107, e109, e157, e133]
  rfl

end Cert.Block
end
-- ==== Proof.KernelArray.lean ====
/-
  What the kernel's result array holds.

  Sixteen blocks of 8 by 1024 tile the array that the kernel writes; the program then reads it as one column of 131072.
  Entry `8192 t + 1024 r + l` of that column is what block `t` computed at its lane `1024 r + l`.
-/
module

public import proofs.«01_k».proof.Proof.Block
public import Idealize.ShloMosaic.Lib.StableHlo.Run
public import Idealize.ShloMosaic.Lib.ValueLayout

@[expose] public section

set_option maxRecDepth 16384

noncomputable section

namespace Cert.KernelArray

open Cert.KernelIdeal Cert.KernelIdeal.Gen Cert.Spline Cert.Block
open Idealize.ShloMosaic Idealize.ShloMosaic.TcCoe Idealize.SL.Sem

variable (m : (ℓ : Loc nD τ sig) → Buf (Elt Ideal) ℓ) (c : Dev nD)

/-- The whole array, from the blocks: entry `(t, r, l)` is entry `(r, l)` of the result of block `t`. -/
def blocks : Vec Ideal S16x8x1024 .f32 := fun i =>
  out0_3 (iblk m c 0 (i 0)) (iblk m c 1 (i 0)) (iblk m c 2 (i 0)) (ix3 0 (i 1) (i 2))

/-- The window's block at point `t` is block `t` of the array. -/
theorem place : ∀ t : Fin cfg0.N, win0_3.index t = ![t.val, 0, 0] := by decide +kernel

/-- The array the kernel writes ends as the blocks side by side. -/
theorem final : (dats m 0 c).arrAt 3 cfg0.N = blocks m c := by
  refine (dats m 0 c).arrAt_eq_of_covers 3 _ (by decide +kernel) fun t hf y => ?_
  blk_simp
  rw [after0_3]
  have h0 : (win0_3.blk t).view.emb y 0 = t := Fin.ext (by blk_simp [place t])
  have h1 : ix3 0 ((win0_3.blk t).view.emb y 1) ((win0_3.blk t).view.emb y 2) = y := by blk_ext [place t]
  unfold blocks
  rw [h0]
  exact congrArg _ h1.symm

/-! ## What the windows' blocks hold -/

/-- The values, as a row. -/
theorem entry_values : V m c main_v2
    = shapeCast S1x131072 (m ((c.tc : Thread nD τ).loc main_arg0) : Vec Ideal S131072 .f32) shapeCasts_S131072_S1x131072 := by
  unfold V V0 hostOps0
  simp only [List.flatten_cons, List.flatten_nil, List.append_nil, List.cons_append, List.nil_append]
  after_results
  rfl

/-- The scores, transposed. -/
theorem entry_scores : V m c main_v3
    = transpose S95x131072 [1, 0] (m ((c.tc : Thread nD τ).loc main_arg1) : Vec Ideal S131072x95 .f32)
        transposes_S131072x95_S95x131072_1_0 := by
  unfold V V0 hostOps0
  simp only [List.flatten_cons, List.flatten_nil, List.append_nil, List.cons_append, List.nil_append]
  after_results

/-- The first row of the weights, as a column. -/
theorem entry_offsets : V m c main_v1
    = shapeCast S95x1 (extractStridedSlice S1x95 ![0, 0] (m ((c.tc : Thread nD τ).loc main_arg4) : Vec Ideal S100000x95 .f32)
        slices_S100000x95_S1x95_0_0) shapeCasts_S1x95_S95x1 := by
  unfold V V0 hostOps0
  simp only [List.flatten_cons, List.flatten_nil, List.append_nil, List.cons_append, List.nil_append]
  after_results
  rfl

/-- The values, entry by entry. -/
theorem entry_value (q : Fin 131072) : V m c main_v2 (ix2 0 q) = m ((c.tc : Thread nD τ).loc main_arg0) (ix1 q) := by
  rw [entry_values]
  exact ValueIdx.shapeCast_a_1a_apply _ _ 0 q

/-- The scores, entry by entry. -/
theorem entry_score (q : Fin 131072) (j : Fin 95) :
    V m c main_v3 (ix2 j q) = m ((c.tc : Thread nD τ).loc main_arg1) (ix2 q j) := by
  rw [entry_scores]
  generalize (m ((c.tc : Thread nD τ).loc main_arg1) : Vec Ideal S131072x95 .f32) = x
  pointwise

/-- The offsets, entry by entry. -/
theorem entry_offset (j : Fin 95) : V m c main_v1 (ix2 j 0) = m ((c.tc : Thread nD τ).loc main_arg4) (ix2 0 j) := by
  rw [entry_offsets]
  generalize (m ((c.tc : Thread nD τ).loc main_arg4) : Vec Ideal S100000x95 .f32) = x
  pointwise

/-- The values, block by block: lane `p` of block `t` is row `8192 t + p`. -/
theorem block_value (t : Fin cfg0.N) (p : Fin 8192) (n : Fin 131072) (h : n.val = 8192 * t.val + p.val) :
    iblk m c 0 t (ix2 0 p) = m ((c.tc : Thread nD τ).loc main_arg0) (ix1 n) := by
  have e : (win0_0.blk t).view.emb (ix2 0 p) = (ix2 0 n : S1x131072.Idx) := by
    blk_ext [(by decide +kernel : ∀ t : Fin cfg0.N, win0_0.index t = ![0, t.val])]
  show V m c main_v2 ((win0_0.blk t).view.emb (ix2 0 p)) = _
  rw [e, entry_value]

/-- The scores, block by block. -/
theorem block_score (t : Fin cfg0.N) (j : Fin 95) (p : Fin 8192) (n : Fin 131072) (h : n.val = 8192 * t.val + p.val) :
    iblk m c 1 t (ix2 j p) = m ((c.tc : Thread nD τ).loc main_arg1) (ix2 n j) := by
  have e : (win0_1.blk t).view.emb (ix2 j p) = (ix2 j n : S95x131072.Idx) := by
    blk_ext [(by decide +kernel : ∀ t : Fin cfg0.N, win0_1.index t = ![0, t.val])]
  show V m c main_v3 ((win0_1.blk t).view.emb (ix2 j p)) = _
  rw [e, entry_score]

/-- The offset, the same in every block. -/
theorem block_offset (t : Fin cfg0.N) (j : Fin 95) :
    iblk m c 2 t (ix2 j 0) = m ((c.tc : Thread nD τ).loc main_arg4) (ix2 0 j) := by
  have e : (win0_2.blk t).view.emb (ix2 j 0) = (ix2 j 0 : S95x1.Idx) := by
    blk_ext [(by decide +kernel : ∀ t : Fin cfg0.N, win0_2.index t = ![0, 0])]
  show V m c main_v1 ((win0_2.blk t).view.emb (ix2 j 0)) = _
  rw [e, entry_offset]

/-! ## The result -/

/-- The result buffer at the end of the run: the blocks read as one column. -/
theorem result : Pipeline.afterTail₀ cfgs (dats m) 0 (V0 m) [hostOps1] c main_v5
    = shapeCast S131072x1 (blocks m c) shapeCasts_S16x8x1024_S131072x1 := by
  unfold Pipeline.afterTail₀ hostOps1
  simp only [List.flatten_cons, List.flatten_nil, List.append_nil, List.cons_append, List.nil_append]
  after_results
  have h := Pipeline.withArrays_arr (cfgs 0).spec (by decide) c (V0 m c) (fun w => (dats m 0 c).arrAt w (cfgs 0).N) 3
  funext i
  exact congrArg (fun x : Vec Ideal S16x8x1024 .f32 => shapeCast S131072x1 x shapeCasts_S16x8x1024_S131072x1 i)
    (h.trans (final m c))

/-- Entry `(t, r, l)` of the array of blocks, under the same hypotheses as `result_at`, at row `8192 t + 1024 r + l`. -/
theorem blocks_at (t : Fin cfg0.N) (r : Fin 8) (l : Fin 1024) (n : Fin 131072) (hn : n.val = 8192 * t.val + (r.val * 1024 + l.val))
    {v w : ℝ} {d : ℕ → ℝ} (h0 : m ((c.tc : Thread nD τ).loc main_arg0) (ix1 n) = (v : EReal))
    (h1 : ∀ j : Fin 95, m ((c.tc : Thread nD τ).loc main_arg1) (ix2 n j) = ((d j.val : ℝ) : EReal))
    (h2 : m ((c.tc : Thread nD τ).loc main_arg4) (ix2 0 64) = (w : EReal)) {k : Fin 32} (hk : InBin (uh d) (moved v) k) :
    out0_3 (iblk m c 0 t) (iblk m c 1 t) (iblk m c 2 t) (ix3 0 r l) = outcome (moved v) (uh d) (uw d) (ud w d) k :=
  at_result (p := ⟨r.val * 1024 + l.val, by omega⟩) rfl ((block_value m c t _ n hn).trans h0)
    (fun j => (block_score m c t j _ n hn).trans (h1 j)) ((block_offset m c t 64).trans h2) hk

/-- Entry `n` of the result, when row `n` of the values is a real `v`, that of the scores holds reals `d`, the offset is a
    real `w`, and the moved value lies in bin `k`. -/
theorem result_at (n : Fin 131072) {v w : ℝ} {d : ℕ → ℝ}
    (h0 : m ((c.tc : Thread nD τ).loc main_arg0) (ix1 n) = (v : EReal))
    (h1 : ∀ j : Fin 95, m ((c.tc : Thread nD τ).loc main_arg1) (ix2 n j) = ((d j.val : ℝ) : EReal))
    (h2 : m ((c.tc : Thread nD τ).loc main_arg4) (ix2 0 64) = (w : EReal)) {k : Fin 32} (hk : InBin (uh d) (moved v) k) :
    Pipeline.afterTail₀ cfgs (dats m) 0 (V0 m) [hostOps1] c main_v5 (ix2 n 0) = outcome (moved v) (uh d) (uw d) (ud w d) k := by
  have hn := n.isLt
  rw [result]
  have key := blocks_at m c ⟨n.val / 8192, by show n.val / 8192 < 16; omega⟩ ⟨n.val / 1024 % 8, by omega⟩
    ⟨n.val % 1024, by omega⟩ n (by show n.val = 8192 * (n.val / 8192) + ((n.val / 1024 % 8) * 1024 + n.val % 1024); omega)
    h0 h1 h2 hk
  have hb : ∀ (t : Fin 16) (r : Fin 8) (l : Fin 1024), blocks m c (ix3 t r l)
    = out0_3 (iblk m c 0 t) (iblk m c 1 t) (iblk m c 2 t) (ix3 0 r l) := fun _ _ _ => rfl
  replace key := (hb ⟨n.val / 8192, by omega⟩ ⟨n.val / 1024 % 8, by omega⟩ ⟨n.val % 1024, by omega⟩).trans key
  generalize blocks m c = x at key ⊢
  pointwise
  exact key

end Cert.KernelArray
end
-- ==== Proof.RefOps.lean ====
/-
  Two operations of the reference read at an index: the running sum along the rows of a matrix, and the entry that an
  index array picks from each row.
-/
module

public import Idealize.ShloMosaic.PureOps.Ideal.Laws
public import Idealize.ShloMosaic.Lib.Pointwise
public import Idealize.ShloMosaic.Lib.Routing.Ops

@[expose] public section

set_option maxRecDepth 16384

noncomputable section

namespace Cert.RefOps

open Idealize.ShloMosaic Idealize.ShloMosaic.Routing
open scoped BigOperators

/-! ## Running sums -/

/-- Adding terms one after another to a start gives the start plus their sum. -/
theorem fold_eq {M : ℕ} (g : Fin M → EReal) (v : EReal) :
    (List.finRange M).foldl (fun r n => r + g n) v = v + ∑ n, g n := by
  rw [Fin.sum_univ_def]
  generalize List.finRange M = l
  induction l generalizing v with
  | nil => simp
  | cons a l ih => rw [List.foldl_cons, ih, List.map_cons, List.sum_cons, add_assoc]

/-- The window of width `N + 1` that ends at column `j` sees the columns `0 … j`. -/
theorem window_sum (N j : ℕ) (hj : j ≤ N) (f : ℕ → EReal) :
    ∑ n ∈ Finset.range (N + 1), (if N ≤ j + n then f (j + n - N) else 0)
      = ∑ k ∈ Finset.range (j + 1), f k := by
  rw [← Finset.sum_filter]
  refine Finset.sum_nbij' (fun n => j + n - N) (fun k => k + N - j) ?_ ?_ ?_ ?_ ?_ <;>
    simp only [Finset.mem_filter, Finset.mem_range] <;> intros <;> first | omega | trivial

/-- One term of the window that ends at entry `(i, j)`: column `j + n - N` of row `i` where there is one, else the
    start value. -/
theorem window_term {A N : ℕ} (x : FVec Ideal (shape2 A (N + 1)) .f32) (i : Fin A) (j : Fin (N + 1)) (f : ℕ → EReal)
    (hf : ∀ k : Fin (N + 1), x (ix2 i k) = f k.val) (n : Fin (shape2 1 (N + 1)).numel) (c0 c1 : ℕ)
    (h0 : c0 = i.val) (h1 : c1 = j.val + n.val) {P : Prop} [Decidable P]
    (hP : P ↔ N ≤ j.val + n.val) (y : P → (shape2 A (N + 1)).Idx) (hy0 : ∀ h, (y h 0).val = c0) (hy1 : ∀ h, (y h 1).val = c1 - N) :
    (if h : P then x (y h) else (0 : EReal)) = if N ≤ j.val + n.val then f (j.val + n.val - N) else 0 := by
  subst h0 h1
  by_cases h : P
  · rw [dif_pos h, if_pos (hP.1 h)]
    have e1 := hy1 h
    have lt : (y h 1).val < N + 1 := (y h 1).isLt
    have : y h = ix2 i ⟨j.val + n.val - N, by omega⟩ := by
      funext a
      match a with
      | ⟨0, _⟩ => exact Fin.ext (hy0 h)
      | ⟨1, _⟩ => exact Fin.ext (hy1 h)
    rw [this, hf]
  · rw [dif_neg h, if_neg fun e => h (hP.2 e)]

/-- The running sum along the rows of a matrix: entry `(i, j)` is the sum of the entries `0 … j` of row `i`. -/
theorem running_sum {A N : ℕ} (x : FVec Ideal (shape2 A (N + 1)) .f32) (init : FVec Ideal shape0 .f32) (h0 : init ix0 = 0)
    (h : (shape2 A (N + 1)).ReduceWindows (![1, N + 1] : Fin 2 → Nat) ![1, 1] ![0, N] ![0, 0] (shape2 A (N + 1)))
    (hu : 0 < shape0.numel) (i : Fin A) (j : Fin (N + 1)) (f : ℕ → EReal) (hf : ∀ k : Fin (N + 1), x (ix2 i k) = f k.val) :
    Host.reduceWindowAdd ![1, N + 1] ![1, 1] ![0, N] ![0, 0] x init h hu (ix2 i j)
      = ∑ k ∈ Finset.range (j.val + 1), f k := by
  have hv : init (Shape.Idx.first hu) = 0 := (congrArg init (funext fun a => a.elim0)).trans h0
  have hi := i.isLt
  have hj := j.isLt
  show Host.reduceWindow (· + ·) _ _ _ _ x (fun _ : (⟨0, ![]⟩ : Shape).Idx => init (Shape.Idx.first hu)) h hu (ix2 i j) = _
  unfold Host.reduceWindow
  simp only [hv]
  refine (fold_eq _ _).trans ?_
  rw [zero_add]
  refine Eq.trans (Finset.sum_congr rfl fun n _ => ?_) (b := ∑ n : Fin (shape2 1 (N + 1)).numel,
    if N ≤ j.val + n.val then f (j.val + n.val - N) else 0) ?_
  · have w0 : ((shape2 1 (N + 1)).rowMajor.symm n 0).val = 0 := by rw [symm2]; rfl
    have w1 : ((shape2 1 (N + 1)).rowMajor.symm n 1).val = n.val := by rw [symm2]; rfl
    have hn : n.val < N + 1 := (n.cast (numel2 _)).isLt
    refine window_term x i j f hf n (i.val * 1 + ((shape2 1 (N + 1)).rowMajor.symm n 0).val)
      (j.val * 1 + ((shape2 1 (N + 1)).rowMajor.symm n 1).val) (by omega) (by omega) ?_ _ (fun _ => ?_) (fun _ => rfl)
    · constructor
      · intro hin
        have := (hin 1).1
        change N ≤ j.val * 1 + ((shape2 1 (N + 1)).rowMajor.symm n 1).val at this
        omega
      · intro hle a
        match a with
        | ⟨0, _⟩ =>
          show 0 ≤ i.val * 1 + ((shape2 1 (N + 1)).rowMajor.symm n 0).val
            ∧ i.val * 1 + ((shape2 1 (N + 1)).rowMajor.symm n 0).val - 0 < A
          omega
        | ⟨1, _⟩ =>
          show N ≤ j.val * 1 + ((shape2 1 (N + 1)).rowMajor.symm n 1).val
            ∧ j.val * 1 + ((shape2 1 (N + 1)).rowMajor.symm n 1).val - N < N + 1
          omega
    · show i.val * 1 + ((shape2 1 (N + 1)).rowMajor.symm n 0).val - 0 = _
      omega
  · rw [← window_sum N j.val (by omega) f, numel2]
    exact Fin.sum_univ_eq_sum_range (fun n => if N ≤ j.val + n then f (j.val + n - N) else 0) (N + 1)

/-! ## Picking one entry from each row -/

/-- The dimension numbers that pick, from each row of a `[B, N]` matrix, the entry that a `[B, 1, 1]` array of column
    numbers names. -/
abbrev pick (B N : ℕ) (wf : GatherDims.WF ⟨2, ![B, N]⟩ ⟨3, ![B, 1, 1]⟩ ⟨2, ![B, 1]⟩ [] [1] [0] [1] [0] 2 ![1, 1]) :
    GatherDims ⟨2, ![B, N]⟩ ⟨3, ![B, 1, 1]⟩ ⟨2, ![B, 1]⟩ :=
  { offsetDims := [], collapsedSliceDims := [1], operandBatchingDims := [0], startIndicesBatchingDims := [0],
    startIndexMap := [1], indexVectorDim := 2, sliceSizes := ![1, 1], wf := wf }

/-- When the named column `k` is one of the row's, row `b` of the pick is entry `k` of that row. -/
theorem pick_apply {α : Type} {B N w : ℕ}
    (wf : GatherDims.WF ⟨2, ![B, N]⟩ ⟨3, ![B, 1, 1]⟩ ⟨2, ![B, 1]⟩ [] [1] [0] [1] [0] 2 ![1, 1])
    (x : (⟨2, ![B, N]⟩ : Shape).Idx → α) (idx : IVec ⟨3, ![B, 1, 1]⟩ w) (b : Fin B) (k : Fin N)
    (hk : (idx (ix3 b 0 0)).toInt = k.val) :
    Host.gather (pick B N wf) x idx (ix2 b 0) = x (ix2 b k) := by
  have hkN := k.isLt
  unfold Host.gather
  refine congrArg x (funext fun a => Fin.ext ?_)
  show (pick B N wf).start (ix2 b 0) idx a + (pick B N wf).batchCoord (ix2 b 0) a + (pick B N wf).offCoord (ix2 b 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (pick B N wf).startIndexMap from List.mem_singleton.mpr rfl)]
    have e : (pick B N wf).siIdx (ix2 b 0) ⟨List.idxOf (1 : Fin 2) (pick B N wf).startIndexMap,
        List.idxOf_lt_length_iff.2 (List.mem_singleton.mpr rfl)⟩ = ix3 b 0 0 := by
      funext c
      refine Fin.ext ?_
      match c with
      | ⟨0, _⟩ => rfl
      | ⟨1, _⟩ => rfl
      | ⟨2, _⟩ => rfl
    rw [e, hk]
    show min ((k.val : ℤ).toNat) (N - 1) = k.val
    rw [Int.toNat_natCast]
    omega

end Cert.RefOps
end
-- ==== Proof.RefKnots.lean ====
/-
  The reference's knots on one row: each is the knot of the row's scores.

  The reference subtracts the row's largest entry before it exponentiates, adds a common offset `w` to every score, and
  sums the bins' sizes one after another; none of this changes a real softmax or its partial sums. First the three facts
  about real numbers, then the arrays, for the widths and for the heights.
-/
module

public import proofs.«01_k».proof.Proof.Spline
public import proofs.«01_k».proof.Proof.Consts
public import proofs.«01_k».proof.Proof.RefOps
public import proofs.«01_k».proof.Proof.Gen.ReferenceIdeal.Read

@[expose] public section

set_option maxRecDepth 16384

noncomputable section

namespace Cert.RefKnots

open Cert.ReferenceIdeal Cert.ReferenceIdeal.Gen Cert.ReferenceIdeal.Read Cert.Spline Cert.Consts Cert.RefOps
open Idealize.ShloMosaic
open scoped BigOperators

/-! ## Real numbers -/

/-- The largest of finitely many reals, and of minus infinity, is a real. -/
theorem fold_max_real {n : ℕ} (f : Fin (n + 1) → ℝ) :
    ∃ M : ℝ, Finset.fold max (⊥ : EReal) (fun i => (f i : EReal)) Finset.univ = M := by
  have lt : Finset.fold max (⊥ : EReal) (fun i => (f i : EReal)) Finset.univ < ⊤ :=
    (Finset.fold_max_lt _).2 ⟨bot_lt_top, fun i _ => EReal.coe_lt_top _⟩
  have gt : ⊥ < Finset.fold max (⊥ : EReal) (fun i => (f i : EReal)) Finset.univ :=
    (Finset.lt_fold_max _).2 (Or.inr ⟨0, Finset.mem_univ _, EReal.bot_lt_coe _⟩)
  exact ⟨_, (EReal.coe_toReal lt.ne gt.ne').symm⟩

/-- The maximum of a row of reals, taken along the columns from minus infinity, is a real. -/
theorem row_max {A : ℕ} (x : FVec Ideal ⟨2, ![A, 32]⟩ .f32) (b : FVec Ideal ⟨0, ![]⟩ .f32) (hb : ∀ i, b i = ⊥)
    (h : (⟨2, ![A, 32]⟩ : Shape).ReducesTo [1] ⟨1, ![A]⟩) (hu : 0 < (⟨0, ![]⟩ : Shape).numel) (n : Fin A) (f : Fin 32 → ℝ)
    (hx : ∀ j, x (ix2 n j) = (f j : EReal)) : ∃ M : ℝ, Host.reduce FloatOps.maximumf x b h hu (ix1 n) = M := by
  pointwise
  simp only [hb, hx]
  exact fold_max_real f

/-- One thousandth, as the program divides it. -/
theorem thousandth : Ideal.div 1 (Ideal.ofBits .f32 0x447A0000#32) = ((1 / 1000 : ℝ) : EReal) := by
  rw [ofBits_thousand, ← EReal.coe_one, div_coe _ (by norm_num)]

/-- The bin's size does not depend on the offset nor on what is subtracted: it is half the distance between the knots. -/
theorem size_eq (u : Fin 32 → ℝ) (w M : ℝ) (j : Fin 32) :
    ((1 / 1000 : ℝ) : EReal) + (1 - ((1 / 1000 : ℝ) : EReal) * ((32 : ℝ) : EReal))
        * Ideal.div (Ideal.exp (((w + u j : ℝ) : EReal) - M)) (∑ x : Fin 32, Ideal.exp (((w + u x : ℝ) : EReal) - M))
      = (((knot u (j.val + 1) - knot u j.val) / 2 : ℝ) : EReal) := by
  have e : ∀ x, Ideal.exp (((w + u x : ℝ) : EReal) - M) = ((Real.exp (w - M) * Real.exp (u x) : ℝ) : EReal) := fun x => by
    rw [← EReal.coe_sub, exp_coe, ← Real.exp_add]
    congr 2; ring
  have hE := (Real.exp_pos (w - M)).ne'
  have hT := (total_pos u).ne'
  simp only [e]
  rw [sum_coe, ← Finset.mul_sum, show ∑ x, Real.exp (u x) = total u from rfl, div_coe _ (mul_ne_zero hE hT), knot_succ_sub, mul_div_mul_left _ _ hE, ← EReal.coe_one,
    ← EReal.coe_mul, ← EReal.coe_sub, ← EReal.coe_mul, ← EReal.coe_add]
  congr 1
  unfold share
  ring

/-- The sizes of the bins before knot `k` add up to half the knot's distance from the left end. -/
theorem sizes_sum (u : Fin 32 → ℝ) (k : ℕ) :
    ∑ i ∈ Finset.range k, (((knot u (i + 1) - knot u i) / 2 : ℝ) : EReal) = (((knot u k + 1) / 2 : ℝ) : EReal) := by
  rw [sum_coe, ← Finset.sum_div, Finset.sum_range_sub, knot_zero, sub_neg_eq_add]

/-- Scaled and moved, a partial sum is the knot; the two ends are set. -/
theorem knot_eq (u : Fin 32 → ℝ) (j : Fin 33) (s : EReal)
    (hs : 1 ≤ j.val → s = (((knot u j.val + 1) / 2 : ℝ) : EReal)) :
    Scalar.select (IntOp.cmpi .eq (BitVec.ofNat 32 j.val) 32#32) (1 : EReal)
        (Scalar.select (IntOp.cmpi .eq (BitVec.ofNat 32 j.val) 0#32) ((-1 : ℝ) : EReal) (2 * s + ((-1 : ℝ) : EReal)))
      = ((knot u j.val : ℝ) : EReal) := by
  have h1 : ∀ j : Fin 33, IntOp.cmpi .eq (BitVec.ofNat 32 j.val) 32#32 = BitVec.ofBool (decide (j.val = 32)) := by decide
  have h2 : ∀ j : Fin 33, IntOp.cmpi .eq (BitVec.ofNat 32 j.val) 0#32 = BitVec.ofBool (decide (j.val = 0)) := by decide
  rw [h1, h2]
  by_cases e1 : j.val = 32
  · simp [Scalar.select, e1, knot_last]
  by_cases e0 : j.val = 0
  · simp [Scalar.select, e0, knot_zero]
  have e2 : (2 : EReal) = ((2 : ℝ) : EReal) := by norm_cast
  simp only [Scalar.select, e1, e0, decide_false, BitVec.ofBool_false, if_neg (show ¬ (0 : BitVec 1) = 1 by decide)]
  rw [hs (by omega), e2, ← EReal.coe_mul, ← EReal.coe_add]
  congr 1
  ring

/-! ## The arrays -/

variable {x1 : Vec Ideal S131072x95 .f32} {x2 : Vec Ideal S1024 .i32} {x3 : Vec Ideal S131072 .i32} {x4 : Vec Ideal S100000x95 .f32}
variable {n : Fin 131072} {w : ℝ} {d : ℕ → ℝ}

/-- Whatever rows are gathered, the table's one number is added to the row's score. -/
theorem score (h1 : ∀ j : Fin 95, x1 (ix2 n j) = ((d j.val : ℝ) : EReal)) (h4 : ∀ i, x4 i = (w : EReal)) (j : Fin 95) :
    val_main_v14 x1 x2 x3 x4 (ix2 n j) = ((w + d j.val : ℝ) : EReal) := by
  pointwise [val_main_v14]
  rw [show val_main_v13 x2 x3 x4 (ix2 n j) = (w : EReal) from h4 _, h1, EReal.coe_add]

/-! ## The widths -/

/-- The widths' scores. -/
theorem width_score (h1 : ∀ j : Fin 95, x1 (ix2 n j) = ((d j.val : ℝ) : EReal)) (h4 : ∀ i, x4 i = (w : EReal)) (j : Fin 32) :
    val_main_v15 x1 x2 x3 x4 (ix2 n j) = ((w + uw d j : ℝ) : EReal) := by
  pointwise [val_main_v15]
  exact score h1 h4 _

/-- The widths' sizes. -/
theorem width_size (h1 : ∀ j : Fin 95, x1 (ix2 n j) = ((d j.val : ℝ) : EReal)) (h4 : ∀ i, x4 i = (w : EReal)) (j : Fin 32) :
    val_main_v57 x1 x2 x3 x4 (ix2 n j) = (((knot (uw d) (j.val + 1) - knot (uw d) j.val) / 2 : ℝ) : EReal) := by
  have s := width_score (x2 := x2) (x3 := x3) h1 h4
  obtain ⟨M, hM⟩ := row_max (val_main_v15 x1 x2 x3 x4) (val_main_cst_18 (F := Ideal)) (fun _ => ofBits_bot)
    reducesTo_S131072x32_S131072_d1 h_S_ n _ s
  have top : val_main_v43 x1 x2 x3 x4 (ix1 n) = (M : EReal) := by
    rw [val_main_v43_apply, val_main_v42_apply, show val_main_v41 x1 x2 x3 x4 (ix1 n) = (M : EReal) from hM]
    show max (Ideal.ofBits .f32 0xFF800000#32) _ = _
    rw [ofBits_bot, max_eq_right bot_le]
  have e : ∀ j, val_main_v47 x1 x2 x3 x4 (ix2 n j) = Ideal.exp (((w + uw d j : ℝ) : EReal) - M) := fun j => by
    pointwise [val_main_v47, val_main_v46, val_main_v45, val_main_v44]
    rw [s, top]
  pointwise [val_main_v57, val_main_v56, val_main_v55, val_main_v54, val_main_v53, val_main_v52, val_main_cst_22, val_main_cst_21,
    val_main_v27, val_main_cst_6, val_main_cst_7, val_main_v51, val_main_v50, val_main_v49, val_main_v48, val_main_cst_20]
  simp only [e]
  rw [thousandth, ofBits_thirty_two]
  exact size_eq (uw d) w M j

/-- The widths' knots. -/
theorem width_knot (h1 : ∀ j : Fin 95, x1 (ix2 n j) = ((d j.val : ℝ) : EReal)) (h4 : ∀ i, x4 i = (w : EReal)) (j : Fin 33) :
    val_main_v70 x1 x2 x3 x4 (ix2 n j) = ((knot (uw d) j.val : ℝ) : EReal) := by
  have sums : ∀ i : Fin 32, val_main_v58 x1 x2 x3 x4 (ix2 n i) = (((knot (uw d) (i.val + 1) + 1) / 2 : ℝ) : EReal) := fun i =>
    (running_sum (A := 131072) (N := 31) (val_main_v57 x1 x2 x3 x4) (val_main_call2_call0_v0 (F := Ideal))
      (by pointwise [val_main_call2_call0_v0, val_main_call2_call0_cst]) _ h_S_ n i
      (fun i => (((knot (uw d) (i + 1) - knot (uw d) i) / 2 : ℝ) : EReal)) (width_size h1 h4)).trans (sizes_sum _ _)
  pointwise [val_main_v70, val_main_call5_v2, val_main_call5_v1, val_main_call5_v0, val_main_cst_29, val_main_v69, val_main_v68,
    val_main_c_28, val_main_v67, val_main_call4_v2, val_main_call4_v1, val_main_call4_v0, val_main_cst_27, val_main_v66,
    val_main_v65, val_main_c_26, val_main_v64, val_main_v63, val_main_v62, val_main_cst_25, val_main_v61, val_main_v60,
    val_main_cst_24, val_main_v59, val_main_call3_v0, val_main_c_23]
  rw [ofBits_two]
  change Scalar.select _ (Ideal.ofBits .f32 0x3F800000#32) (Scalar.select _ (Ideal.ofBits .f32 0xBF800000#32) (_ + _)) = _
  rw [ofBits_one, ofBits_neg_one]
  refine knot_eq (uw d) j _ fun hj => ?_
  have hlt := j.isLt
  rw [dif_pos ⟨hj, by omega⟩, sums]
  congr 5
  show j.val - 1 + 1 = j.val
  omega

/-! ## The heights -/

/-- The heights' scores. -/
theorem height_score (h1 : ∀ j : Fin 95, x1 (ix2 n j) = ((d j.val : ℝ) : EReal)) (h4 : ∀ i, x4 i = (w : EReal)) (j : Fin 32) :
    val_main_v16 x1 x2 x3 x4 (ix2 n j) = ((w + uh d j : ℝ) : EReal) := by
  pointwise [val_main_v16]
  exact score h1 h4 _

/-- The heights' sizes. -/
theorem height_size (h1 : ∀ j : Fin 95, x1 (ix2 n j) = ((d j.val : ℝ) : EReal)) (h4 : ∀ i, x4 i = (w : EReal)) (j : Fin 32) :
    val_main_v93 x1 x2 x3 x4 (ix2 n j) = (((knot (uh d) (j.val + 1) - knot (uh d) j.val) / 2 : ℝ) : EReal) := by
  have s := height_score (x2 := x2) (x3 := x3) h1 h4
  obtain ⟨M, hM⟩ := row_max (val_main_v16 x1 x2 x3 x4) (val_main_cst_30 (F := Ideal)) (fun _ => ofBits_bot)
    reducesTo_S131072x32_S131072_d1 h_S_ n _ s
  have top : val_main_v79 x1 x2 x3 x4 (ix1 n) = (M : EReal) := by
    rw [val_main_v79_apply, val_main_v78_apply, show val_main_v77 x1 x2 x3 x4 (ix1 n) = (M : EReal) from hM]
    show max (Ideal.ofBits .f32 0xFF800000#32) _ = _
    rw [ofBits_bot, max_eq_right bot_le]
  have e : ∀ j, val_main_v83 x1 x2 x3 x4 (ix2 n j) = Ideal.exp (((w + uh d j : ℝ) : EReal) - M) := fun j => by
    pointwise [val_main_v83, val_main_v82, val_main_v81, val_main_v80]
    rw [s, top]
  pointwise [val_main_v93, val_main_v92, val_main_v91, val_main_v90, val_main_v89, val_main_v88, val_main_cst_34, val_main_cst_33,
    val_main_v28, val_main_cst_8, val_main_cst_9, val_main_v87, val_main_v86, val_main_v85, val_main_v84, val_main_cst_32]
  simp only [e]
  rw [thousandth, ofBits_thirty_two]
  exact size_eq (uh d) w M j

/-- The heights' knots. -/
theorem height_knot (h1 : ∀ j : Fin 95, x1 (ix2 n j) = ((d j.val : ℝ) : EReal)) (h4 : ∀ i, x4 i = (w : EReal)) (j : Fin 33) :
    val_main_v106 x1 x2 x3 x4 (ix2 n j) = ((knot (uh d) j.val : ℝ) : EReal) := by
  have sums : ∀ i : Fin 32, val_main_v94 x1 x2 x3 x4 (ix2 n i) = (((knot (uh d) (i.val + 1) + 1) / 2 : ℝ) : EReal) := fun i =>
    (running_sum (A := 131072) (N := 31) (val_main_v93 x1 x2 x3 x4) (val_main_call7_call0_v0 (F := Ideal))
      (by pointwise [val_main_call7_call0_v0, val_main_call7_call0_cst]) _ h_S_ n i
      (fun i => (((knot (uh d) (i + 1) - knot (uh d) i) / 2 : ℝ) : EReal)) (height_size h1 h4)).trans (sizes_sum _ _)
  pointwise [val_main_v106, val_main_call10_v2, val_main_call10_v1, val_main_call10_v0, val_main_cst_41, val_main_v105, val_main_v104,
    val_main_c_40, val_main_v103, val_main_call9_v2, val_main_call9_v1, val_main_call9_v0, val_main_cst_39, val_main_v102,
    val_main_v101, val_main_c_38, val_main_v100, val_main_v99, val_main_v98, val_main_cst_37, val_main_v97, val_main_v96,
    val_main_cst_36, val_main_v95, val_main_call8_v0, val_main_c_35]
  rw [ofBits_two]
  change Scalar.select _ (Ideal.ofBits .f32 0x3F800000#32) (Scalar.select _ (Ideal.ofBits .f32 0xBF800000#32) (_ + _)) = _
  rw [ofBits_one, ofBits_neg_one]
  refine knot_eq (uh d) j _ fun hj => ?_
  have hlt := j.isLt
  rw [dif_pos ⟨hj, by omega⟩, sums]
  congr 5
  show j.val - 1 + 1 = j.val
  omega

end Cert.RefKnots
end
-- ==== Proof.RefValue.lean ====
/-
  The reference's result on one row.

  The row holds one real value `v` in `[0, 1)`, 95 real scores `d` and, whichever row of the table is gathered, the one
  real number `w` that the table holds everywhere. The theorems follow the program: the slopes, the moved value, the bin
  that the comparison count finds, the five entries picked at that bin, and last the logarithm.
-/
module

public import proofs.«01_k».proof.Proof.RefKnots

@[expose] public section

set_option maxRecDepth 16384

noncomputable section

namespace Cert.RefValue

open Cert.ReferenceIdeal Cert.ReferenceIdeal.Gen Cert.ReferenceIdeal.Read Cert.Spline Cert.Consts Cert.RefOps Cert.RefKnots
open Idealize.ShloMosaic
open scoped BigOperators

variable {x0 : Vec Ideal S131072 .f32} {x1 : Vec Ideal S131072x95 .f32} {x2 : Vec Ideal S1024 .i32}
variable {x3 : Vec Ideal S131072 .i32} {x4 : Vec Ideal S100000x95 .f32}
variable {n : Fin 131072} {v w : ℝ} {d : ℕ → ℝ} {k : Fin 32}

/-! ## The slopes -/

/-- The program's softplus of a real, plus one thousandth, is the slope. -/
theorem slope_eq (y : ℝ) : ((1 / 1000 : ℝ) : EReal) + (if (y : EReal) ≠ (y : EReal) then (y : EReal) else
    max (y : EReal) 0 + Ideal.log1p (Ideal.exp (-(FloatOps.absf (F := Ideal) (φ := .f32) y : EReal)))) = slope y := by
  rw [if_neg (by simp)]; rfl

/-- The input of the two outer slopes. -/
def outer : ℝ := Real.log (Real.exp (999 / 1000) - 1)

theorem two_lt_exp : (2 : ℝ) < Real.exp (999 / 1000) :=
  lt_of_lt_of_le (by norm_num) (Real.quadratic_le_exp_of_nonneg (x := 999 / 1000) (by norm_num))

theorem outer_pos : 0 < outer := Real.log_pos (by linarith [two_lt_exp])

/-- The outer slope is one: softplus undoes the logarithm. -/
theorem slope_outer : slope outer = 1 := by
  have hp := outer_pos
  have he : Real.exp outer = Real.exp (999 / 1000) - 1 := Real.exp_log (by linarith [two_lt_exp])
  have key : outer + Real.log (1 + Real.exp (-outer)) = 999 / 1000 := by
    have h : 1 + Real.exp (-outer) = Real.exp (999 / 1000) * Real.exp (-outer) := by
      have : Real.exp (-outer) * Real.exp outer = 1 := by rw [← Real.exp_add, neg_add_cancel, Real.exp_zero]
      rw [he] at this
      linarith
    rw [h, Real.log_mul (Real.exp_pos _).ne' (Real.exp_pos _).ne', Real.log_exp, Real.log_exp]
    ring
  have h0 : max (outer : EReal) 0 = (outer : EReal) := max_eq_left (by exact_mod_cast hp.le)
  have h1 : max (outer : EReal) (-(outer : EReal)) = (outer : EReal) := by
    rw [← EReal.coe_neg]; exact max_eq_left (by exact_mod_cast (by linarith))
  rw [Cert.Spline.slope, h0, h1, ← EReal.coe_neg, exp_coe, Ideal.log1p, ← EReal.coe_one, ← EReal.coe_add, Ideal.log_coe,
    if_neg (by have := Real.exp_pos (-outer); linarith), ← EReal.coe_add, ← EReal.coe_add, key]
  norm_num

/-- The program computes that input. -/
theorem outer_eq : Ideal.log (Ideal.exp (1 - ((1 / 1000 : ℝ) : EReal)) - 1) = ((outer : ℝ) : EReal) := by
  rw [← EReal.coe_one, ← EReal.coe_sub, exp_coe, ← EReal.coe_sub, show (1 - 1 / 1000 : ℝ) = 999 / 1000 by norm_num, Ideal.log_coe,
    if_neg (by linarith [two_lt_exp])]
  rfl

/-- The inner derivatives' scores. -/
theorem inner_score (h1 : ∀ j : Fin 95, x1 (ix2 n j) = ((d j.val : ℝ) : EReal)) (h4 : ∀ i, x4 i = (w : EReal)) (j : Fin 31) :
    val_main_v17 x1 x2 x3 x4 (ix2 n j) = ((ud w d j.val : ℝ) : EReal) := by
  pointwise [val_main_v17]
  rw [score h1 h4, ud, add_comm]

/-- The slope at a knot: one at both ends, and the inner derivative's between them. -/
theorem slope_at (h1 : ∀ j : Fin 95, x1 (ix2 n j) = ((d j.val : ℝ) : EReal)) (h4 : ∀ i, x4 i = (w : EReal)) (j : Fin 33) :
    val_main_v76 x1 x2 x3 x4 (ix2 n j) = if j.val = 0 ∨ j.val = 32 then 1 else slope (ud w d (j.val - 1)) := by
  have e : val_main_v40 x1 x2 x3 x4 (ix2 n j)
      = ((if j.val = 0 ∨ j.val = 32 then outer else ud w d (j.val - 1) : ℝ) : EReal) := by
    pointwise [val_main_v40, val_main_v39, val_main_v38, val_main_cst_17, val_main_v37, val_main_v36, val_main_cst_16,
      val_main_v29, val_main_cst_10, val_main_cst_11]
    rw [thousandth, outer_eq]
    have hj := j.isLt
    by_cases h : j.val = 0 ∨ j.val = 32
    · rw [dif_neg (by omega), if_pos h]
    · rw [dif_pos (by omega), if_neg h, inner_score h1 h4]
  pointwise [val_main_v76, val_main_v75, val_main_v29, val_main_cst_10, val_main_cst_11, val_main_v74, val_main_call6_v11,
    val_main_call6_v10, val_main_call6_v9, val_main_call6_v8, val_main_call6_v7, val_main_call6_v6, val_main_call6_v5,
    val_main_call6_v4, val_main_call6_v3, val_main_call6_v2, val_main_call6_v1, val_main_call6_v0, val_main_call6_cst]
  rw [e, thousandth, slope_eq]
  split
  · exact slope_outer
  · rfl

/-! ## The moved value and its bin -/

/-- A value in `[0, 1)` is moved to `[-1, 1)`. -/
theorem moved_mem (hv : 0 ≤ v) (hv' : v < 1) : -1 ≤ moved v ∧ moved v < 1 := by
  unfold moved; constructor <;> linarith

/-- The value, moved to `[-1, 1)`. -/
theorem moved_eq (h0 : x0 (ix1 n) = (v : EReal)) : val_main_v26 x0 (ix2 n 0) = ((moved v : ℝ) : EReal) := by
  pointwise [val_main_v26, val_main_v25, val_main_v24, val_main_cst_5, val_main_v23, val_main_v22, val_main_cst_4, val_main_v21,
    val_main_v20, val_main_cst_3, val_main_v19, val_main_v18, val_main_cst]
  rw [h0]
  rw [← EReal.coe_one, div_coe _ one_ne_zero, div_one, ofBits_half, ofBits_two, ← EReal.coe_sub,
    show (2 : EReal) = ((2 : ℝ) : EReal) by norm_cast, ← EReal.coe_mul]
  rfl

/-- The moved value is inside, so that clipping leaves it. -/
theorem clipped_eq (h0 : x0 (ix1 n) = (v : EReal)) (hv : 0 ≤ v) (hv' : v < 1) :
    val_main_v35 x0 (ix2 n 0) = ((moved v : ℝ) : EReal) := by
  pointwise [val_main_v35, val_main_call0_v4, val_main_call0_v3, val_main_cst_15, val_main_call0_v2, val_main_call0_v1,
    val_main_call0_v0, val_main_cst_14]
  change min (Ideal.ofBits .f32 0x3F800000#32) (max (Ideal.ofBits .f32 0xBF800000#32) _) = _
  rw [moved_eq h0, ofBits_one, ofBits_neg_one, max_eq_right (by exact_mod_cast (moved_mem hv hv').1),
    min_eq_right (by exact_mod_cast (moved_mem hv hv').2.le)]

/-- The mark of the values inside is set. -/
theorem inside_eq (h0 : x0 (ix1 n) = (v : EReal)) (hv : 0 ≤ v) (hv' : v < 1) : val_main_v34 x0 (ix2 n 0) = 1#1 := by
  pointwise [val_main_v34, val_main_v33, val_main_v32, val_main_cst_13, val_main_v31, val_main_v30, val_main_cst_12]
  rw [moved_eq h0, ofBits_neg_one, decide_eq_true (by exact_mod_cast (moved_mem hv hv').1),
    decide_eq_true (by exact_mod_cast (moved_mem hv hv').2.le)]
  rfl

/-- The knots at or below the value are those up to its bin's lower one. -/
theorem below_iff (h0 : x0 (ix1 n) = (v : EReal)) (hv : 0 ≤ v) (hv' : v < 1)
    (h1 : ∀ j : Fin 95, x1 (ix2 n j) = ((d j.val : ℝ) : EReal)) (h4 : ∀ i, x4 i = (w : EReal))
    (hk : InBin (uh d) (moved v) k) (j : Fin 33) :
    val_main_v112 x0 x1 x2 x3 x4 (ix2 n j) = 1#1 ↔ j.val ≤ k.val := by
  pointwise [val_main_v112, val_main_v111]
  rw [height_knot h1 h4, clipped_eq h0 hv hv', ← knot_le_iff hk (by have := j.isLt; omega), ← EReal.coe_le_coe_iff]
  by_cases h : ((knot (uh d) j.val : ℝ) : EReal) ≤ ((moved v : ℝ) : EReal) <;> simp [h]

/-- The bin's number. -/
theorem bin_eq (h0 : x0 (ix1 n) = (v : EReal)) (hv : 0 ≤ v) (hv' : v < 1)
    (h1 : ∀ j : Fin 95, x1 (ix2 n j) = ((d j.val : ℝ) : EReal)) (h4 : ∀ i, x4 i = (w : EReal))
    (hk : InBin (uh d) (moved v) k) : val_main_v118 x0 x1 x2 x3 x4 (ix2 n 0) = BitVec.ofNat 32 k.val := by
  have count : val_main_v114 x0 x1 x2 x3 x4 (ix1 n) = BitVec.ofNat 32 (k.val + 1) := by
    have ix : (ix1 n : S131072.Idx) = ValueIdx.ix1 n := by funext i; match i with | ⟨0, _⟩ => rfl
    have e : ∀ k : Fin 32, Nat.count (· ≤ k.val) 33 = k.val + 1 := by decide
    rw [ix, ← e k]
    exact Routing.reduce_count (by decide) (val_main_v112 x0 x1 x2 x3 x4) natLt_1_32 _ h_S_ n (· ≤ k.val) fun q =>
      (by rw [show (ValueIdx.ix2 n q : S131072x33.Idx) = ix2 n q by
            funext i; match i with | ⟨0, _⟩ => rfl | ⟨1, _⟩ => rfl]
          exact below_iff h0 hv hv' h1 h4 hk q)
  pointwise [val_main_v118, val_main_call11_v4, val_main_call11_v3, val_main_c_45, val_main_call11_v2, val_main_call11_v1,
    val_main_call11_v0, val_main_c_44, val_main_v117, val_main_v116, val_main_c_43, val_main_v115]
  rw [count]
  have e : ∀ k : Fin 32, IntOp.minsi 31#32 (IntOp.maxsi 0#32 (IntOp.subi (BitVec.ofNat 32 (k.val + 1)) 1#32))
      = BitVec.ofNat 32 k.val := by decide
  exact e k

/-- Picking at the bin's number, which no wrapping changes. -/
theorem wrapped (k : Fin 32) (N : BitVec 32) :
    (Scalar.select (IntOp.cmpi .slt (BitVec.ofNat 32 k.val) 0#32) (IntOp.addi (BitVec.ofNat 32 k.val) N)
      (BitVec.ofNat 32 k.val)).toInt = k.val := by
  have h : ∀ k : Fin 32, IntOp.cmpi .slt (BitVec.ofNat 32 k.val) 0#32 = 0#1 := by decide
  have h' : ∀ k : Fin 32, (BitVec.ofNat 32 k.val).toInt = k.val := by decide
  rw [h, ← h' k]
  rfl

/-! ## The picked entries -/

/-- The height of a bin. -/
theorem height_at (h1 : ∀ j : Fin 95, x1 (ix2 n j) = ((d j.val : ℝ) : EReal)) (h4 : ∀ i, x4 i = (w : EReal)) (k : Fin 32) :
    val_main_v109 x1 x2 x3 x4 (ix2 n k) = ((knot (uh d) (k.val + 1) - knot (uh d) k.val : ℝ) : EReal) := by
  pointwise [val_main_v109, val_main_v108, val_main_v107]
  rw [height_knot h1 h4, height_knot h1 h4, EReal.coe_sub, Nat.add_comm k.val 1]

/-- The width of a bin. -/
theorem width_at (h1 : ∀ j : Fin 95, x1 (ix2 n j) = ((d j.val : ℝ) : EReal)) (h4 : ∀ i, x4 i = (w : EReal)) (k : Fin 32) :
    val_main_v73 x1 x2 x3 x4 (ix2 n k) = ((knot (uw d) (k.val + 1) - knot (uw d) k.val : ℝ) : EReal) := by
  pointwise [val_main_v73, val_main_v72, val_main_v71]
  rw [width_knot h1 h4, width_knot h1 h4, EReal.coe_sub, Nat.add_comm k.val 1]

/-- The slope of a bin. -/
theorem ratio_at (h1 : ∀ j : Fin 95, x1 (ix2 n j) = ((d j.val : ℝ) : EReal)) (h4 : ∀ i, x4 i = (w : EReal)) (k : Fin 32) :
    val_main_v110 x1 x2 x3 x4 (ix2 n k)
      = (((knot (uh d) (k.val + 1) - knot (uh d) k.val) / (knot (uw d) (k.val + 1) - knot (uw d) k.val) : ℝ) : EReal) := by
  rw [val_main_v110_apply, height_at h1 h4, width_at h1 h4]
  exact div_coe _ (size_pos _ _).ne'

section Picked

variable (h0 : x0 (ix1 n) = (v : EReal)) (hv : 0 ≤ v) (hv' : v < 1)
variable (h1 : ∀ j : Fin 95, x1 (ix2 n j) = ((d j.val : ℝ) : EReal)) (h4 : ∀ i, x4 i = (w : EReal))
variable (hk : InBin (uh d) (moved v) k)
include h0 hv hv' h1 h4 hk

/-- The bin's lower edge. -/
theorem picked_edge : val_main_v119 x0 x1 x2 x3 x4 (ix2 n 0) = ((knot (uh d) k.val : ℝ) : EReal) := by
  have e : (val_main_call12_v5 x0 x1 x2 x3 x4 (ix3 n 0 0)).toInt = k.val := by
    pointwise [val_main_call12_v5, val_main_call12_v4, val_main_call12_v3, val_main_call12_v2, val_main_call12_c_0,
      val_main_call12_v1, val_main_call12_v0, val_main_call12_c]
    rw [bin_eq h0 hv hv' h1 h4 hk]
    exact wrapped k _
  exact (pick_apply _ (val_main_v106 x1 x2 x3 x4) _ n (⟨k.val, by omega⟩ : Fin 33) e).trans (height_knot h1 h4 _)

/-- The bin's height. -/
theorem picked_height : val_main_v120 x0 x1 x2 x3 x4 (ix2 n 0) = ((knot (uh d) (k.val + 1) - knot (uh d) k.val : ℝ) : EReal) := by
  have e : (val_main_call13_v5 x0 x1 x2 x3 x4 (ix3 n 0 0)).toInt = k.val := by
    pointwise [val_main_call13_v5, val_main_call13_v4, val_main_call13_v3, val_main_call13_v2, val_main_call13_c_0,
      val_main_call13_v1, val_main_call13_v0, val_main_call13_c]
    rw [bin_eq h0 hv hv' h1 h4 hk]
    exact wrapped k _
  exact (pick_apply _ (val_main_v109 x1 x2 x3 x4) _ n (⟨k.val, by omega⟩ : Fin 32) e).trans (height_at h1 h4 k)

/-- The bin's slope. -/
theorem picked_slope : val_main_v121 x0 x1 x2 x3 x4 (ix2 n 0) = (((knot (uh d) (k.val + 1) - knot (uh d) k.val) / (knot (uw d) (k.val + 1) - knot (uw d) k.val) : ℝ) : EReal) := by
  have e : (val_main_call14_v5 x0 x1 x2 x3 x4 (ix3 n 0 0)).toInt = k.val := by
    pointwise [val_main_call14_v5, val_main_call14_v4, val_main_call14_v3, val_main_call14_v2, val_main_call14_c_0,
      val_main_call14_v1, val_main_call14_v0, val_main_call14_c]
    rw [bin_eq h0 hv hv' h1 h4 hk]
    exact wrapped k _
  exact (pick_apply _ (val_main_v110 x1 x2 x3 x4) _ n (⟨k.val, by omega⟩ : Fin 32) e).trans (ratio_at h1 h4 k)

/-- The derivative at the bin's lower edge. -/
theorem picked_lower : val_main_v122 x0 x1 x2 x3 x4 (ix2 n 0) = if k.val = 0 then 1 else slope (ud w d (k.val - 1)) := by
  have e : (val_main_call15_v5 x0 x1 x2 x3 x4 (ix3 n 0 0)).toInt = k.val := by
    pointwise [val_main_call15_v5, val_main_call15_v4, val_main_call15_v3, val_main_call15_v2, val_main_call15_c_0,
      val_main_call15_v1, val_main_call15_v0, val_main_call15_c]
    rw [bin_eq h0 hv hv' h1 h4 hk]
    exact wrapped k _
  refine (pick_apply _ (val_main_v76 x1 x2 x3 x4) _ n (⟨k.val, by omega⟩ : Fin 33) e).trans ((slope_at h1 h4 _).trans ?_)
  have := k.isLt
  by_cases h : k.val = 0
  · rw [if_pos (Or.inl h), if_pos h]
  · rw [if_neg h, if_neg (by simp only; omega)]

/-- The derivative at the bin's upper edge. -/
theorem picked_upper : val_main_v124 x0 x1 x2 x3 x4 (ix2 n 0) = if k.val = 31 then 1 else slope (ud w d k.val) := by
  have e : (val_main_call16_v5 x0 x1 x2 x3 x4 (ix3 n 0 0)).toInt = k.val := by
    pointwise [val_main_call16_v5, val_main_call16_v4, val_main_call16_v3, val_main_call16_v2, val_main_call16_c_0,
      val_main_call16_v1, val_main_call16_v0, val_main_call16_c]
    rw [bin_eq h0 hv hv' h1 h4 hk]
    exact wrapped k _
  refine (pick_apply _ (val_main_v123 x1 x2 x3 x4) _ n (⟨k.val, by omega⟩ : Fin 32) e).trans ?_
  pointwise [val_main_v123]
  rw [slope_at h1 h4]
  have := k.isLt
  by_cases h : k.val = 31
  · rw [if_pos (Or.inr (show 1 + k.val = 32 by omega)), if_pos h]
  · rw [if_neg h, if_neg (show ¬ (1 + k.val = 0 ∨ 1 + k.val = 32) by omega)]
    show slope (ud w d (1 + k.val - 1)) = _
    rw [Nat.add_sub_cancel_left]

/-- The distance from the bin's lower edge. -/
theorem distance : val_main_v125 x0 x1 x2 x3 x4 (ix2 n 0) = ((moved v - knot (uh d) k.val : ℝ) : EReal) := by
  rw [val_main_v125_apply, picked_edge h0 hv hv' h1 h4 hk, clipped_eq h0 hv hv', EReal.coe_sub]
  rfl

end Picked

/-! ## The derivative, from the picked entries -/

section Last

variable {dy ih idl d0 d1 : EReal}

/-- Both edges' derivatives minus twice the bin's slope. -/
theorem common_eq (hl : val_main_v121 x0 x1 x2 x3 x4 (ix2 n 0) = idl) (h0 : val_main_v122 x0 x1 x2 x3 x4 (ix2 n 0) = d0)
    (h1 : val_main_v124 x0 x1 x2 x3 x4 (ix2 n 0) = d1) : val_main_v129 x0 x1 x2 x3 x4 (ix2 n 0) = d0 + d1 - 2 * idl := by
  rw [val_main_v129_apply, val_main_v128_apply, val_main_v127_apply, val_main_cst_46_apply, val_main_v126_apply, hl, h0, h1,
    ← ofBits_two]
  rfl

/-- The quadratic's leading coefficient. -/
theorem leading_eq {common : EReal} (hc : val_main_v129 x0 x1 x2 x3 x4 (ix2 n 0) = common)
    (hy : val_main_v125 x0 x1 x2 x3 x4 (ix2 n 0) = dy) (hi : val_main_v120 x0 x1 x2 x3 x4 (ix2 n 0) = ih)
    (hl : val_main_v121 x0 x1 x2 x3 x4 (ix2 n 0) = idl) (h0 : val_main_v122 x0 x1 x2 x3 x4 (ix2 n 0) = d0) :
    val_main_v133 x0 x1 x2 x3 x4 (ix2 n 0) = dy * common + ih * (idl - d0) := by
  rw [val_main_v133_apply, val_main_v132_apply, val_main_v131_apply, val_main_v130_apply, hc, hy, hi, hl, h0]
  rfl

/-- The quadratic's middle coefficient. -/
theorem middle_eq {common : EReal} (hc : val_main_v129 x0 x1 x2 x3 x4 (ix2 n 0) = common)
    (hy : val_main_v125 x0 x1 x2 x3 x4 (ix2 n 0) = dy) (hi : val_main_v120 x0 x1 x2 x3 x4 (ix2 n 0) = ih)
    (h0 : val_main_v122 x0 x1 x2 x3 x4 (ix2 n 0) = d0) :
    val_main_v136 x0 x1 x2 x3 x4 (ix2 n 0) = ih * d0 - dy * common := by
  rw [val_main_v136_apply, val_main_v135_apply, val_main_v134_apply, hc, hy, hi, h0]
  rfl

/-- The quadratic's constant coefficient. -/
theorem constant_eq (hy : val_main_v125 x0 x1 x2 x3 x4 (ix2 n 0) = dy) (hl : val_main_v121 x0 x1 x2 x3 x4 (ix2 n 0) = idl) :
    val_main_v138 x0 x1 x2 x3 x4 (ix2 n 0) = -idl * dy := by
  rw [val_main_v138_apply, val_main_v137_apply, hy, hl]
  rfl

/-- The quadratic's root, from its coefficients. -/
theorem root_eq {a b c : EReal} (ha : val_main_v133 x0 x1 x2 x3 x4 (ix2 n 0) = a) (hb : val_main_v136 x0 x1 x2 x3 x4 (ix2 n 0) = b)
    (hc : val_main_v138 x0 x1 x2 x3 x4 (ix2 n 0) = c) :
    val_main_v151 x0 x1 x2 x3 x4 (ix2 n 0) = Ideal.div (2 * c) (-b - Ideal.sqrt (max (b * b - 4 * a * c) 0)) := by
  have e : val_main_v145 x0 x1 x2 x3 x4 (ix2 n 0) = max (b * b - 4 * a * c) 0 := by
    rw [val_main_v145_apply, val_main_v144_apply, val_main_cst_48_apply, val_main_v143_apply, val_main_v142_apply,
      val_main_v141_apply, val_main_v140_apply, val_main_cst_47_apply, val_main_v139_apply, ha, hb, hc, ← ofBits_four,
      ← Ideal.ofBits_zero_f32]
    show max _ (Ideal.ofBits .f32 0x00000000#32) = _
    rfl
  rw [val_main_v151_apply, val_main_v150_apply, val_main_v149_apply, e, val_main_v148_apply, val_main_v147_apply,
    val_main_v146_apply, val_main_cst_49_apply, hb, hc, ← ofBits_two]
  rfl

/-- The product of the root and one minus the root. -/
theorem product_eq {root : EReal} (hr : val_main_v151 x0 x1 x2 x3 x4 (ix2 n 0) = root) :
    val_main_v154 x0 x1 x2 x3 x4 (ix2 n 0) = root * (1 - root) := by
  rw [val_main_v154_apply, val_main_v153_apply, val_main_v152_apply, val_main_cst_50_apply, hr, ← ofBits_one]
  rfl

/-- The first logarithm. -/
theorem first_eq {root t : EReal} (hr : val_main_v151 x0 x1 x2 x3 x4 (ix2 n 0) = root)
    (ht : val_main_v154 x0 x1 x2 x3 x4 (ix2 n 0) = t) (hl : val_main_v121 x0 x1 x2 x3 x4 (ix2 n 0) = idl)
    (h0 : val_main_v122 x0 x1 x2 x3 x4 (ix2 n 0) = d0) (h1 : val_main_v124 x0 x1 x2 x3 x4 (ix2 n 0) = d1) :
    val_main_v170 x0 x1 x2 x3 x4 (ix2 n 0)
      = Ideal.log (idl * idl * (d1 * root * root + 2 * idl * t + d0 * (1 - root) * (1 - root))) := by
  rw [mul_assoc d1, mul_assoc d0, val_main_v170_apply, val_main_v169_apply, val_main_v168_apply, val_main_v167_apply,
    val_main_v166_apply, val_main_v165_apply, val_main_v164_apply, val_main_cst_52_apply, val_main_v163_apply,
    val_main_v162_apply, val_main_v161_apply, val_main_v160_apply, val_main_cst_51_apply, val_main_v159_apply,
    val_main_v158_apply, val_main_v157_apply, hr, ht, hl, h0, h1, ← ofBits_one, ← ofBits_two]
  rfl

/-- The second logarithm, twice. -/
theorem second_eq {common t : EReal} (hc : val_main_v129 x0 x1 x2 x3 x4 (ix2 n 0) = common)
    (ht : val_main_v154 x0 x1 x2 x3 x4 (ix2 n 0) = t) (hl : val_main_v121 x0 x1 x2 x3 x4 (ix2 n 0) = idl) :
    val_main_v173 x0 x1 x2 x3 x4 (ix2 n 0) = 2 * Ideal.log (idl + common * t) := by
  rw [val_main_v173_apply, val_main_v172_apply, val_main_cst_53_apply, val_main_v171_apply, val_main_v156_apply,
    val_main_v155_apply, hc, ht, hl, ← ofBits_two]
  rfl

/-- The last stage: the constant minus the difference of the two logarithms, for a value inside the interval. -/
theorem difference_eq {p q : EReal} (hin : val_main_v34 x0 (ix2 n 0) = 1#1)
    (hp : val_main_v170 x0 x1 x2 x3 x4 (ix2 n 0) = p) (hq : val_main_v173 x0 x1 x2 x3 x4 (ix2 n 0) = q) :
    val_main_v180 x0 x1 x2 x3 x4 (ix2 n 0) = Ideal.ofBits .f32 0xBF317218#32 - (p - q) := by
  rw [val_main_v180_apply, val_main_v179_apply, val_main_cst_56_apply, val_main_v178_apply, val_main_v177_apply,
    val_main_cst_55_apply, val_main_v176_apply, val_main_v175_apply, val_main_v174_apply, hin, hp, hq]
  generalize val_main_call17_v1 (F := Ideal) (ix2 n 0) = zero
  show Ideal.ofBits .f32 0xBF317218#32 + -(p - q) - Ideal.ofBits .f32 0x00000000#32 = _
  rw [Ideal.ofBits_zero_f32, sub_zero, ← sub_eq_add_neg]

/-- The logarithm of the derivative, from the picked entries. -/
theorem last (hin : val_main_v34 x0 (ix2 n 0) = 1#1) (hy : val_main_v125 x0 x1 x2 x3 x4 (ix2 n 0) = dy)
    (hi : val_main_v120 x0 x1 x2 x3 x4 (ix2 n 0) = ih) (hl : val_main_v121 x0 x1 x2 x3 x4 (ix2 n 0) = idl)
    (h0 : val_main_v122 x0 x1 x2 x3 x4 (ix2 n 0) = d0) (h1 : val_main_v124 x0 x1 x2 x3 x4 (ix2 n 0) = d1) :
    val_main_v180 x0 x1 x2 x3 x4 (ix2 n 0) = logDerivative dy ih idl d0 d1 := by
  have hc := common_eq hl h0 h1
  have hr := root_eq (leading_eq hc hy hi hl h0) (middle_eq hc hy hi h0) (constant_eq hy hl)
  have ht := product_eq hr
  exact difference_eq hin (first_eq hr ht hl h0 h1) (second_eq hc ht hl)

end Last

/-- The reference's result at row `n`: the logarithm of the derivative in the value's bin. -/
theorem result_at (h0 : x0 (ix1 n) = (v : EReal)) (hv : 0 ≤ v) (hv' : v < 1)
    (h1 : ∀ j : Fin 95, x1 (ix2 n j) = ((d j.val : ℝ) : EReal)) (h4 : ∀ i, x4 i = (w : EReal))
    (hk : InBin (uh d) (moved v) k) :
    val_main_v180 x0 x1 x2 x3 x4 (ix2 n 0) = outcome (moved v) (uh d) (uw d) (ud w d) k :=
  last (inside_eq h0 hv hv') (distance h0 hv hv' h1 h4 hk) (picked_height h0 hv hv' h1 h4 hk)
    (picked_slope h0 hv hv' h1 h4 hk) (picked_lower h0 hv hv' h1 h4 hk) (picked_upper h0 hv hv' h1 h4 hk)

end Cert.RefValue
end
-- ==== Proof.Domain.lean ====
/- What the precondition says of the five arguments: every value lies in [0, 1), every entry of the spline offsets is a
   real, and every entry of the weight table is one and the same real. -/
module

public import proofs.«01_k».proof.Pre_in_domain
public import proofs.«01_k».proof.Proof.Consts
public import Idealize.ShloMosaic.Lib.ReduceAll
public import Idealize.ShloMosaic.Lib.Pointwise

@[expose] public section

noncomputable section

namespace Cert.Domain

open Idealize.ShloMosaic Cert.Consts Cert.Pre_in_domain

/-- An extended real strictly between the two infinities is a real. -/
theorem real_of_between {x : EReal} (h : ⊥ < x) (h' : x < ⊤) : ∃ r : ℝ, x = (r : EReal) :=
  ⟨x.toReal, (EReal.coe_toReal h'.ne h.ne').symm⟩

/-- A value at least zero and below one is such a real. -/
theorem real_of_unit {x : EReal} (h : 0 ≤ x) (h' : x < 1) : ∃ r : ℝ, x = (r : EReal) ∧ 0 ≤ r ∧ r < 1 := by
  obtain ⟨r, rfl⟩ := real_of_between (lt_of_lt_of_le (by exact EReal.bot_lt_zero) h) (h'.trans (by exact EReal.coe_lt_top 1))
  exact ⟨r, rfl, by exact_mod_cast h, by exact_mod_cast h'⟩

variable [Cert.Pre_in_domain.Facts]
variable {x0 : Vec Ideal S131072 .f32} {x1 : Vec Ideal S131072x95 .f32} {x2 : Vec Ideal S1024 .i32}
variable {x3 : Vec Ideal S131072 .i32} {x4 : Vec Ideal S100000x95 .f32}

instance : Subsingleton S_.Idx := ⟨fun _ _ => funext fun a => a.elim0⟩

/-- The table's first entry, as the program reads it. -/
theorem corner : shapeCast S_ (extractStridedSlice S1x1 ![0, 0] x4 Facts.slices_S100000x95_S1x1_0_0) Facts.shapeCasts_S1x1_S_ ix0
    = x4 (ix2 0 0) := by
  pointwise

/-- The precondition's parts, element by element. -/
theorem parts (h : fn (F := Ideal) x0 x1 x2 x3 x4 = fun _ => 1#1) :
    (∀ i, 0 ≤ x0 i ∧ x0 i < 1) ∧ (∀ i, ⊥ < x1 i ∧ x1 i < ⊤) ∧ (∀ i, x4 i = x4 (ix2 0 0)) ∧ ⊥ < x4 (ix2 0 0) ∧ x4 (ix2 0 0) < ⊤ := by
  have e := congrFun h ix0
  obtain ⟨e1, e2⟩ := IntOp.andi_eq_one.1 e
  obtain ⟨ev, ed⟩ := IntOp.andi_eq_one.1 e1
  obtain ⟨e3, et⟩ := IntOp.andi_eq_one.1 e2
  obtain ⟨ew, eb⟩ := IntOp.andi_eq_one.1 e3
  refine ⟨fun i => ?_, fun i => ?_, fun i => ?_, ?_, ?_⟩
  · obtain ⟨a, b⟩ := IntOp.andi_eq_one.1 (Host.reduce_andi_all _ _ _ _ _ ev i)
    have a' : Ideal.ofBits .f32 0x00000000#32 ≤ x0 i := (Ideal.cmp_oge_eq_one _ _).1 a
    have b' : x0 i < Ideal.ofBits .f32 0x3F800000#32 := (Ideal.cmp_olt_eq_one _ _).1 b
    rw [Ideal.ofBits_zero_f32] at a'
    rw [ofBits_one] at b'
    exact ⟨a', b'⟩
  · obtain ⟨a, b⟩ := IntOp.andi_eq_one.1 (Host.reduce_andi_all _ _ _ _ _ ed i)
    have a' : Ideal.ofBits .f32 0xFF800000#32 < x1 i := (Ideal.cmp_ogt_eq_one _ _).1 a
    have b' : x1 i < Ideal.ofBits .f32 0x7F800000#32 := (Ideal.cmp_olt_eq_one _ _).1 b
    rw [ofBits_bot] at a'
    rw [ofBits_top] at b'
    exact ⟨a', b'⟩
  · have a := (Ideal.cmp_oeq_eq_one _ _).1 (Host.reduce_andi_all _ _ _ _ _ ew i)
    exact a.trans ((congrArg _ (Subsingleton.elim _ ix0)).trans corner)
  · have a : Ideal.ofBits .f32 0xFF800000#32 < _ := (Ideal.cmp_ogt_eq_one _ _).1 eb
    rw [ofBits_bot, corner] at a
    exact a
  · have a : _ < Ideal.ofBits .f32 0x7F800000#32 := (Ideal.cmp_olt_eq_one _ _).1 et
    rw [ofBits_top, corner] at a
    exact a

/-- Under the precondition, the value of row `n` is a real in `[0, 1)`. -/
theorem value (h : fn (F := Ideal) x0 x1 x2 x3 x4 = fun _ => 1#1) (n : Fin 131072) :
    ∃ v : ℝ, x0 (ix1 n) = (v : EReal) ∧ 0 ≤ v ∧ v < 1 :=
  real_of_unit ((parts h).1 _).1 ((parts h).1 _).2

/-- Under the precondition, the offsets of row `n` are reals. -/
theorem offsets (h : fn (F := Ideal) x0 x1 x2 x3 x4 = fun _ => 1#1) (n : Fin 131072) :
    ∃ d : ℕ → ℝ, ∀ j : Fin 95, x1 (ix2 n j) = ((d j.val : ℝ) : EReal) := by
  choose f hf using fun j : Fin 95 => real_of_between ((parts h).2.1 (ix2 n j)).1 ((parts h).2.1 (ix2 n j)).2
  exact ⟨fun j => if hj : j < 95 then f ⟨j, hj⟩ else 0, fun j => by
    show _ = ((dite _ _ _ : ℝ) : EReal)
    rw [dif_pos j.isLt]
    exact hf j⟩

/-- Under the precondition, the table holds one real. -/
theorem weight (h : fn (F := Ideal) x0 x1 x2 x3 x4 = fun _ => 1#1) : ∃ w : ℝ, ∀ i, x4 i = (w : EReal) := by
  obtain ⟨-, -, e, b, t⟩ := parts h
  obtain ⟨w, hw⟩ := real_of_between b t
  exact ⟨w, fun i => (e i).trans hw⟩

end Cert.Domain
end
-- ==== Proof.Equation.lean ====
/-
  The two result arrays are equal.

  On every row, the kernel's result and the reference's are the one expression `Cert.Spline.outcome`, at the bin that
  the row's value lies in.
-/
module

public import proofs.«01_k».proof.Proof.KernelArray
public import proofs.«01_k».proof.Proof.RefValue
public import proofs.«01_k».proof.Proof.Domain
public import proofs.«01_k».proof.Proof.Gen.Pre_in_domain

@[expose] public section

noncomputable section

namespace Cert.Equation

open Cert.KernelIdeal Cert.KernelIdeal.Gen Cert.Spline
open Idealize.ShloMosaic Idealize.ShloMosaic.TcCoe

/-- An index of a column is its row. -/
theorem column (i : S131072x1.Idx) : i = ix2 (i 0) 0 := by
  funext a
  match a with
  | ⟨0, _⟩ => rfl
  | ⟨1, _⟩ => exact Subsingleton.elim (α := Fin 1) _ _

/-- Under the precondition, the array that the kernel leaves is the reference's result on the same arguments. -/
theorem arrays_eq (m : (ℓ : Loc nD τ sig) → Buf (Elt Ideal) ℓ) (c : Dev nD)
    (h : Cert.Pre_in_domain.fn (F := Ideal) (m (c.tc.loc main_arg0)) (m (c.tc.loc main_arg1)) (m (c.tc.loc main_arg2))
      (m (c.tc.loc main_arg3)) (m (c.tc.loc main_arg4)) = fun _ => 1#1) :
    Cert.ReferenceIdeal.Read.val_main_v180 (F := Ideal) (m (c.tc.loc main_arg0)) (m (c.tc.loc main_arg1)) (m (c.tc.loc main_arg2))
      (m (c.tc.loc main_arg3)) (m (c.tc.loc main_arg4))
      = Pipeline.afterTail₀ cfgs (dats m) 0 (V0 m) [hostOps1] c main_v5 := by
  funext i
  obtain ⟨v, h0, hv, hv'⟩ := Domain.value h (i 0)
  obtain ⟨d, h1⟩ := Domain.offsets h (i 0)
  obtain ⟨w, h4⟩ := Domain.weight h
  obtain ⟨k, hk⟩ := exists_inBin (uh d) (RefValue.moved_mem hv hv').1 (RefValue.moved_mem hv hv').2
  rw [column i]
  exact (RefValue.result_at h0 hv hv' h1 h4 hk).trans (KernelArray.result_at m c (i 0) h0 h1 (h4 _) hk).symm

end Cert.Equation
end
-- ==== Proof.lean ====
/-
  The certificate of the rational quadratic spline kernel, assembled.

  Each of the three programs runs to its end, leaves its five arguments as they were and every counter at zero. The
  kernel's three named constants are the reals they were rounded from. And over the extended reals, on arguments that
  satisfy the precondition, the kernel's result is the reference's (`Cert.Equation.arrays_eq`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_domain
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The kernel runs, its arguments end unchanged and every counter ends at zero. -/
theorem frame_kernel : Cert.quiescent_Kernel := fun m ρ _ => Cert.Kernel.Gen.frame m ρ

/-- The kernel over the extended reals runs, its arguments end unchanged and every counter ends at zero. -/
theorem frame_ideal : Cert.quiescent_KernelIdeal := fun m ρ _ => Cert.KernelIdeal.Gen.frame m ρ

/-- The reference runs, its arguments end unchanged and every counter ends at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The three named constants are the reals that the table gives them. -/
theorem preserves : Cert.preserves_Kernel_KernelIdeal :=
  ⟨IdealRules.named_const.statement Cert.KernelIdeal.κ "span_twice" .f32 0x3FF7CED9#32 ((242 / 125 : ℝ) : EReal) rfl,
    IdealRules.named_const.statement Cert.KernelIdeal.κ "min_twice" .f32 0x3B03126F#32 ((1 / 500 : ℝ) : EReal) rfl,
    IdealRules.named_const.statement Cert.KernelIdeal.κ "min_size" .f32 0x3A83126F#32 ((1 / 1000 : ℝ) : EReal) rfl⟩

/-- The kernel leaves its result array at what the reference computes from the same arguments. -/
theorem algebraic : Cert.algebraic_KernelIdeal_ReferenceIdeal_pre_in_domain := by
  intro m g m' g' hpre hargs
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v5, ?_, ?_⟩
  · have result : θ_run Cert.KernelIdeal.defs (onTc (τ := Cert.KernelIdeal.τ) (Cert.KernelIdeal.main (F := Ideal))) ⟨m, fun _ => 0, g⟩
        (fun r => ∀ c : Dev Cert.KernelIdeal.nD, r.2.mem (c.tc.loc Cert.KernelIdeal.main_v5) = Pipeline.afterTail₀ Cert.KernelIdeal.cfgs
          (Cert.KernelIdeal.Gen.dats m) 0 (Cert.KernelIdeal.Gen.V0 m) [Cert.KernelIdeal.Gen.hostOps1] c Cert.KernelIdeal.main_v5) :=
      (θ_run Cert.KernelIdeal.defs _ _).mono
        (fun _ h c => (h c).2 Cert.KernelIdeal.main_v5 (Pipeline.mem_restRefs_of Cert.KernelIdeal.main_v5 (by decide) (by decide)))
        (Cert.KernelIdeal.Gen.run_main m g)
    exact (θ_run Cert.KernelIdeal.defs _ _).mono (fun _ h c => ⟨h.1 c, h.2 c⟩) (θ_run_and result (Cert.KernelIdeal.Gen.unchanged m g))
  · refine (θ_run Cert.ReferenceIdeal.defs _ _).mono (fun r h c => ⟨(h c).1.trans ?_, (h c).2⟩)
      (Cert.ReferenceIdeal.Value.run (F := Ideal) m' g')
    obtain ⟨a0, a1, a2, a3, a4⟩ := hargs c
    refine (Cert.ReferenceIdeal.Read.val_main_v180_eq _).trans ?_
    refine Eq.trans ?_ (Cert.Equation.arrays_eq m c (hpre c))
    rw [← a0, ← a1, ← a2, ← a3, ← a4]

/-- Everything claimed. -/
theorem claim : Cert.Claim :=
  ⟨Cert.Kernel.Gen.facts, Cert.KernelIdeal.Gen.facts, Cert.ReferenceIdeal.Gen.facts, Cert.Pre_in_domain.Gen.facts,
    frame_kernel, frame_ideal, fun m ρ _ => frame_ideal m ρ trivial, frame_reference, fun m ρ _ => frame_reference m ρ trivial,
    preserves, algebraic⟩

end Cert.Proof

end
